-- ==== Defs.lean ====
def Pre_Kernel [hPre_inputs_in_range : Cert.Pre_inputs_in_range.Facts] (m : (ℓ : Loc Cert.Kernel.nD Cert.Kernel.τ Cert.Kernel.sig) → Buf (Elt Bits) ℓ) : Prop :=
  ∀ c : Dev Cert.Kernel.nD,
    (Cert.Pre_inputs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_inputs_in_range : Cert.Pre_inputs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_hist" .f32 0x3CA3D70A#32 ((1 / 50 : ℝ) : EReal)

def algebraic_KernelIdeal_ReferenceIdeal [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel) (hPre_inputs_in_range := hPre_inputs_in_range)
    ∧ quiescent_KernelIdeal (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal (hKernelIdeal := hKernelIdeal) (hReferenceIdeal := hReferenceIdeal) (hPre_inputs_in_range := hPre_inputs_in_range)
-- ==== Pre_inputs_in_range.lean ====
abbrev S16384 : Shape := ⟨1, ![16384]⟩
abbrev S16384x50 : Shape := ⟨2, ![16384, 50]⟩
abbrev S16384x1 : Shape := ⟨2, ![16384, 1]⟩
abbrev S1000000x32 : Shape := ⟨2, ![1000000, 32]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384 32) (main_arg1 : IVec S16384 32) (main_arg2 : IVec S16384x50 32) (main_arg3 : FVec F S16384x1 .f32) (main_arg4 : FVec F S16384x50 .f32) (main_arg5 : FVec F S1000000x32 .f32) (main_arg6 : FVec F S1000000x32 .f32) (main_arg7 : FVec F S1000000x32 .f32) (main_arg8 : FVec F S1000000x32 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg2 main_v0
  let main_c_0 : IVec S_ 1 := constantI S_ 1 1#1
  let main_v2 : IVec S_ 1 := (fun x v => Host.reduce IntOp.andi x v reducesTo_S16384x50_S_d0_1 h_S_) main_v1 main_c_0
  let main_c_1 : IVec S_ 32 := constantI S_ 32 1000000#32
  let main_v3 : IVec S16384x50 32 := broadcastInDim S16384x50 ![] bcast_S_S16384x50 main_c_1
  let main_v4 : IVec S16384x50 1 := cmpi .slt main_arg2 main_v3
  let main_c_2 : IVec S_ 1 := constantI S_ 1 1#1
  let main_v5 : IVec S_ 1 := (fun x v => Host.reduce IntOp.andi x v reducesTo_S16384x50_S_d0_1 h_S_) main_v4 main_c_2
  let main_v6 : IVec S_ 1 := andi main_v2 main_v5
  let main_cst : FVec F S_ .f32 := constant S_ .f32 0x00000000#32
  let main_v7 : FVec F S16384x50 .f32 := broadcastInDim S16384x50 ![] bcast_S_S16384x50 main_cst
  let main_v8 : IVec S16384x50 1 := cmpf .oge main_arg4 main_v7
  let main_c_3 : IVec S_ 1 := constantI S_ 1 1#1
  let main_v9 : IVec S_ 1 := (fun x v => Host.reduce IntOp.andi x v reducesTo_S16384x50_S_d0_1 h_S_) main_v8 main_c_3
  let main_v10 : IVec S_ 1 := andi main_v6 main_v9
  let main_cst_4 : FVec F S_ .f32 := constant S_ .f32 0x7F800000#32
  let main_v11 : FVec F S16384x50 .f32 := broadcastInDim S16384x50 ![] bcast_S_S16384x50 main_cst_4
  let main_v12 : IVec S16384x50 1 := cmpf .olt main_arg4 main_v11
  let main_c_5 : IVec S_ 1 := constantI S_ 1 1#1
  let main_v13 : IVec S_ 1 := (fun x v => Host.reduce IntOp.andi x v reducesTo_S16384x50_S_d0_1 h_S_) main_v12 main_c_5
  let main_v14 : IVec S_ 1 := andi main_v10 main_v13
  main_v14
-- ==== Kernel.lean ====
abbrev S16384 : Shape := ⟨1, ![16384]⟩
abbrev S16384x50 : Shape := ⟨2, ![16384, 50]⟩
abbrev S16384x1 : Shape := ⟨2, ![16384, 1]⟩
abbrev S1000000x32 : Shape := ⟨2, ![1000000, 32]⟩
abbrev S8192x100 : Shape := ⟨2, ![8192, 100]⟩
abbrev S_ : Shape := ⟨0, ![]⟩
abbrev S16384x64 : Shape := ⟨2, ![16384, 64]⟩
abbrev S1048576 : Shape := ⟨1, ![1048576]⟩
abbrev S1 : Shape := ⟨1, ![1]⟩
abbrev S1x1 : Shape := ⟨2, ![1, 1]⟩
abbrev S16384x32 : Shape := ⟨2, ![16384, 32]⟩
abbrev S1000000x128 : Shape := ⟨2, ![1000000, 128]⟩
abbrev S16384x16 : Shape := ⟨2, ![16384, 16]⟩
abbrev S256x100 : Shape := ⟨2, ![256, 100]⟩
abbrev S32768 : Shape := ⟨1, ![32768]⟩
abbrev S512x32 : Shape := ⟨2, ![512, 32]⟩
abbrev S100x128 : Shape := ⟨2, ![100, 128]⟩
abbrev S1664 : Shape := ⟨1, ![1664]⟩
abbrev S512x16 : Shape := ⟨2, ![512, 16]⟩
abbrev S16 : Shape := ⟨1, ![16]⟩
abbrev S1x100 : Shape := ⟨2, ![1, 100]⟩
abbrev S100 : Shape := ⟨1, ![100]⟩
abbrev S1x16 : Shape := ⟨2, ![1, 16]⟩
abbrev S2048x16 : Shape := ⟨2, ![2048, 16]⟩
abbrev S2048x32 : Shape := ⟨2, ![2048, 32]⟩
abbrev S2048x1 : Shape := ⟨2, ![2048, 1]⟩
abbrev S2048 : Shape := ⟨1, ![2048]⟩

abbrev nBuf : Table → Nat
  | .hbm => 89
  | .local .tc .vmem => 12
  | .local .scVector .vmem => 7
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x50, .i32⟩
  | .hbm, ⟨3, _⟩ => ⟨S16384x1, .f32⟩
  | .hbm, ⟨4, _⟩ => ⟨S16384x50, .f32⟩
  | .hbm, ⟨5, _⟩ => ⟨S1000000x32, .f32⟩
  | .hbm, ⟨6, _⟩ => ⟨S1000000x32, .f32⟩
  | .hbm, ⟨7, _⟩ => ⟨S1000000x32, .f32⟩
  | .hbm, ⟨8, _⟩ => ⟨S1000000x32, .f32⟩
  | .hbm, ⟨9, _⟩ => ⟨S8192x100, .i32⟩
  | .hbm, ⟨10, _⟩ => ⟨S_, .i32⟩
  | .hbm, ⟨11, _⟩ => ⟨S_, .f32⟩
  | .hbm, ⟨12, _⟩ => ⟨S16384x64, .f32⟩
  | .hbm, ⟨13, _⟩ => ⟨S1048576, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S1, .i32⟩
  | .hbm, ⟨23, _⟩ => ⟨S_, .i32⟩
  | .hbm, ⟨24, _⟩ => ⟨S16384x1, .i32⟩
  | .hbm, ⟨25, _⟩ => ⟨S16384x1, .i1⟩
  | .hbm, ⟨26, _⟩ => ⟨S1x1, .i32⟩
  | .hbm, ⟨27, _⟩ => ⟨S16384x1, .i32⟩
  | .hbm, ⟨28, _⟩ => ⟨S16384x1, .i1⟩
  | .hbm, ⟨29, _⟩ => ⟨S16384x1, .i1⟩
  | .hbm, ⟨30, _⟩ => ⟨S_, .i1⟩
  | .hbm, ⟨31, _⟩ => ⟨S16384, .i1⟩
  | .hbm, ⟨32, _⟩ => ⟨S16384x32, .f32⟩
  | .hbm, ⟨33, _⟩ => ⟨S16384x32, .i1⟩
  | .hbm, ⟨34, _⟩ => ⟨S_, .f32⟩
  | .hbm, ⟨35, _⟩ => ⟨S16384x32, .f32⟩
  | .hbm, ⟨36, _⟩ => ⟨S16384x32, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S1, .i32⟩
  | .hbm, ⟨46, _⟩ => ⟨S_, .i32⟩
  | .hbm, ⟨47, _⟩ => ⟨S16384x1, .i32⟩
  | .hbm, ⟨48, _⟩ => ⟨S16384x1, .i1⟩
  | .hbm, ⟨49, _⟩ => ⟨S1x1, .i32⟩
  | .hbm, ⟨50, _⟩ => ⟨S16384x1, .i32⟩
  | .hbm, ⟨51, _⟩ => ⟨S16384x1, .i1⟩
  | .hbm, ⟨52, _⟩ => ⟨S16384x1, .i1⟩
  | .hbm, ⟨53, _⟩ => ⟨S_, .i1⟩
  | .hbm, ⟨54, _⟩ => ⟨S16384, .i1⟩
  | .hbm, ⟨55, _⟩ => ⟨S16384x32, .f32⟩
  | .hbm, ⟨56, _⟩ => ⟨S16384x32, .i1⟩
  | .hbm, ⟨57, _⟩ => ⟨S_, .f32⟩
  | .hbm, ⟨58, _⟩ => ⟨S16384x32, .f32⟩
  | .hbm, ⟨59, _⟩ => ⟨S16384x32, .f32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384x1, .i32⟩
  | .hbm, ⟨68, _⟩ => ⟨S1, .i32⟩
  | .hbm, ⟨69, _⟩ => ⟨S_, .i32⟩
  | .hbm, ⟨70, _⟩ => ⟨S16384x1, .i32⟩
  | .hbm, ⟨71, _⟩ => ⟨S16384x1, .i1⟩
  | .hbm, ⟨72, _⟩ => ⟨S1x1, .i32⟩
  | .hbm, ⟨73, _⟩ => ⟨S16384x1, .i32⟩
  | .hbm, ⟨74, _⟩ => ⟨S16384x1, .i1⟩
  | .hbm, ⟨75, _⟩ => ⟨S16384x1, .i1⟩
  | .hbm, ⟨76, _⟩ => ⟨S_, .i1⟩
  | .hbm, ⟨77, _⟩ => ⟨S16384, .i1⟩
  | .hbm, ⟨78, _⟩ => ⟨S16384x32, .f32⟩
  | .hbm, ⟨79, _⟩ => ⟨S16384x32, .i1⟩
  | .hbm, ⟨80, _⟩ => ⟨S_, .f32⟩
  | .hbm, ⟨81, _⟩ => ⟨S16384x32, .f32⟩
  | .hbm, ⟨82, _⟩ => ⟨S16384x32, .f32⟩
  | .hbm, ⟨83, _⟩ => ⟨S_, .i32⟩
  | .hbm, ⟨84, _⟩ => ⟨S_, .f32⟩
  | .hbm, ⟨85, _⟩ => ⟨S1000000x128, .f32⟩
  | .hbm, ⟨86, _⟩ => ⟨S16384x16, .f32⟩
  | .hbm, ⟨87, _⟩ => ⟨S16384x1, .f32⟩
  | .hbm, ⟨88, _⟩ => ⟨S16384x1, .f32⟩
  | .local .tc .vmem, ⟨0, _⟩ => ⟨S2048x16, .f32⟩
  | .local .tc .vmem, ⟨1, _⟩ => ⟨S2048x16, .f32⟩
  | .local .tc .vmem, ⟨2, _⟩ => ⟨S2048x32, .f32⟩
  | .local .tc .vmem, ⟨3, _⟩ => ⟨S2048x32, .f32⟩
  | .local .tc .vmem, ⟨4, _⟩ => ⟨S2048x32, .f32⟩
  | .local .tc .vmem, ⟨5, _⟩ => ⟨S2048x32, .f32⟩
  | .local .tc .vmem, ⟨6, _⟩ => ⟨S2048x1, .f32⟩
  | .local .tc .vmem, ⟨7, _⟩ => ⟨S2048x1, .f32⟩
  | .local .tc .vmem, ⟨8, _⟩ => ⟨S2048x1, .f32⟩
  | .local .tc .vmem, ⟨9, _⟩ => ⟨S2048x1, .f32⟩
  | .local .tc .vmem, ⟨10, _⟩ => ⟨S2048x1, .f32⟩
  | .local .tc .vmem, ⟨11, _⟩ => ⟨S2048x1, .f32⟩
  | .local .scVector .vmem, ⟨0, _⟩ => ⟨S256x100, .i32⟩
  | .local .scVector .vmem, ⟨1, _⟩ => ⟨S32768, .f32⟩
  | .local .scVector .vmem, ⟨2, _⟩ => ⟨S512x32, .f32⟩
  | .local .scVector .vmem, ⟨3, _⟩ => ⟨S100x128, .f32⟩
  | .local .scVector .vmem, ⟨4, _⟩ => ⟨S100x128, .f32⟩
  | .local .scVector .vmem, ⟨5, _⟩ => ⟨S1664, .f32⟩
  | .local .scVector .vmem, ⟨6, _⟩ => ⟨S512x16, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v3 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v4 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_v14 : Ref sig .tc := ⟨.hbm, 79, rfl⟩
abbrev main_call3_cst : Ref sig .tc := ⟨.hbm, 80, rfl⟩
abbrev main_call3_v15 : Ref sig .tc := ⟨.hbm, 81, rfl⟩
abbrev main_v5 : Ref sig .tc := ⟨.hbm, 82, rfl⟩
abbrev main_c_0 : Ref sig .tc := ⟨.hbm, 83, rfl⟩
abbrev main_call4_v0 : Ref sig .tc := ⟨.hbm, 84, rfl⟩
abbrev main_v6 : Ref sig .tc := ⟨.hbm, 85, rfl⟩
abbrev main_v7 : Ref sig .tc := ⟨.hbm, 86, rfl⟩
abbrev main_v8_0 : Ref sig .tc := ⟨.hbm, 87, rfl⟩
abbrev main_v8_1 : Ref sig .tc := ⟨.hbm, 88, rfl⟩
abbrev main_v0_scv : Ref sig .scVector := ⟨.hbm, 9, rfl⟩
abbrev main_v2_scv : Ref sig .scVector := ⟨.hbm, 13, rfl⟩
abbrev main_v3_scv : Ref sig .scVector := ⟨.hbm, 36, rfl⟩
abbrev main_v6_scv : Ref sig .scVector := ⟨.hbm, 85, rfl⟩
abbrev main_v7_scv : Ref sig .scVector := ⟨.hbm, 86, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v3 : BitVec 32 := Scalar.muli v1 c256_i32
  let c0_i32_14_r0 : BitVec 32 := 0#32
  ![v3.toNat, 0]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c64_i32 : BitVec 32 := 64#32
  let v4 : BitVec 32 := Scalar.muli v2 c64_i32
  ![v4.toNat]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_14_r2 : BitVec 32 := 0#32
  ![v2.toNat, 0]
@[reducible] def k0_t1_loop : Scf.Loop 32 :=
  let c0_i32_0 : BitVec 32 := 0#32
  let c2048_i32 : BitVec 32 := 2048#32
  let v5 : BitVec 32 := Scalar.addi c0_i32_0 c2048_i32
  let c1_i32 : BitVec 32 := 1#32
  ⟨c0_i32_0, v5, c1_i32⟩
def k0_off4 (k0_t1 : Fin k0_t1_loop.trips) : Fin 1 → Nat :=
  let c0_i32_0 : BitVec 32 := 0#32
  let c1_i32 : BitVec 32 := 1#32
  let arg16 : BitVec 32 := Scf.iv c0_i32_0 c1_i32 k0_t1
  let c16_i32_14 : BitVec 32 := 16#32
  let v13 : BitVec 32 := Scalar.muli arg16 c16_i32_14
  let v14 : Index := Scalar.indexCast v13
  ![v14.toNat]
@[reducible] def k0_t2_loop : Scf.Loop 32 :=
  let c0_i32_11 : BitVec 32 := 0#32
  let c128_i32 : BitVec 32 := 128#32
  let v12 : BitVec 32 := Scalar.addi c0_i32_11 c128_i32
  let c1_i32_12 : BitVec 32 := 1#32
  ⟨c0_i32_11, v12, c1_i32_12⟩
def k0_off5 (k0_t2 : Fin k0_t2_loop.trips) : Fin 2 → Nat :=
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let c0_i32_14 : BitVec 32 := 0#32
  ![v13.toNat, 0]
def k0_off6 (k0_t2 : Fin k0_t2_loop.trips) : Fin 2 → Nat :=
  let c2_i32_17 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v17 : BitVec 32 := Scalar.muli c2_i32_17 v13
  let v18 : Index := Scalar.indexCast v17
  let c0 : Index := 0#32
  ![v18.toNat, 0]
def k0_off7 (k0_t2 : Fin k0_t2_loop.trips) : Fin 2 → Nat :=
  let c2_i32_17 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v17 : BitVec 32 := Scalar.muli c2_i32_17 v13
  let v21 : Index := Scalar.indexCast v17
  let c16 : Index := 16#32
  ![v21.toNat, 16]
def k0_off8 (k0_t2 : Fin k0_t2_loop.trips) (c0_i32_19 : BitVec 32) : Fin 1 → Nat :=
  let c2_i32_17 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v17 : BitVec 32 := Scalar.muli c2_i32_17 v13
  let c64_i32_18 : BitVec 32 := 64#32
  let v24 : BitVec 32 := Scalar.muli v17 c64_i32_18
  let v25 : BitVec 32 := Scalar.addi v24 c0_i32_19
  let v26 : Index := Scalar.indexCast v25
  ![v26.toNat]
@[reducible] def k0_t3_loop : Scf.Loop 32 :=
  let c0_i32_23 : BitVec 32 := 0#32
  let c50_i32 : BitVec 32 := 50#32
  let v650 : BitVec 32 := Scalar.addi c0_i32_23 c50_i32
  let c1_i32_24 : BitVec 32 := 1#32
  ⟨c0_i32_23, v650, c1_i32_24⟩
def k0_off9 (k0_t3 : Fin k0_t3_loop.trips) : Fin 2 → Nat :=
  let c0_i32_466 : BitVec 32 := 0#32
  let c0_i32_23 : BitVec 32 := 0#32
  let c1_i32_24 : BitVec 32 := 1#32
  let arg17 : BitVec 32 := Scf.iv c0_i32_23 c1_i32_24 k0_t3
  let v2594 : BitVec 32 := Scalar.addi c0_i32_466 arg17
  let v2596 : Index := Scalar.indexCast v2594
  let c0_468 : Index := 0#32
  ![v2596.toNat, 0]
def k0_off10 (k0_t3 : Fin k0_t3_loop.trips) : Fin 1 → Nat :=
  let c0_i32_23 : BitVec 32 := 0#32
  let c1_i32_24 : BitVec 32 := 1#32
  let arg17 : BitVec 32 := Scf.iv c0_i32_23 c1_i32_24 k0_t3
  let c32_i32_467 : BitVec 32 := 32#32
  let v2595 : BitVec 32 := Scalar.muli arg17 c32_i32_467
  let v2599 : Index := Scalar.indexCast v2595
  ![v2599.toNat]
def k0_off11 (k0_t3 : Fin k0_t3_loop.trips) : Fin 2 → Nat :=
  let c0_i32_466 : BitVec 32 := 0#32
  let c0_i32_23 : BitVec 32 := 0#32
  let c1_i32_24 : BitVec 32 := 1#32
  let arg17 : BitVec 32 := Scf.iv c0_i32_23 c1_i32_24 k0_t3
  let v2594 : BitVec 32 := Scalar.addi c0_i32_466 arg17
  let v2602 : Index := Scalar.indexCast v2594
  let c16_469 : Index := 16#32
  ![v2602.toNat, 16]
def k0_off12 (k0_t3 : Fin k0_t3_loop.trips) : Fin 1 → Nat :=
  let c0_i32_23 : BitVec 32 := 0#32
  let c1_i32_24 : BitVec 32 := 1#32
  let arg17 : BitVec 32 := Scf.iv c0_i32_23 c1_i32_24 k0_t3
  let c32_i32_467 : BitVec 32 := 32#32
  let v2595 : BitVec 32 := Scalar.muli arg17 c32_i32_467
  let c16_i32_470 : BitVec 32 := 16#32
  let v2605 : BitVec 32 := Scalar.addi v2595 c16_i32_470
  let v2606 : Index := Scalar.indexCast v2605
  ![v2606.toNat]
def k0_off13 (k0_t2 : Fin k0_t2_loop.trips) : Fin 2 → Nat :=
  let c2_i32_17 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v17 : BitVec 32 := Scalar.muli c2_i32_17 v13
  let v654 : Index := Scalar.indexCast v17
  let c0_27 : Index := 0#32
  ![v654.toNat, 0]
def k0_off14 (k0_t2 : Fin k0_t2_loop.trips) (c1_i32_29 : BitVec 32) : Fin 2 → Nat :=
  let c2_i32_28 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v658 : BitVec 32 := Scalar.muli c2_i32_28 v13
  let v659 : BitVec 32 := Scalar.addi v658 c1_i32_29
  let v660 : Index := Scalar.indexCast v659
  let c0_30 : Index := 0#32
  ![v660.toNat, 0]
def k0_off15 (k0_t2 : Fin k0_t2_loop.trips) (c1_i32_29 : BitVec 32) : Fin 2 → Nat :=
  let c2_i32_28 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v658 : BitVec 32 := Scalar.muli c2_i32_28 v13
  let v659 : BitVec 32 := Scalar.addi v658 c1_i32_29
  let v663 : Index := Scalar.indexCast v659
  let c16_31 : Index := 16#32
  ![v663.toNat, 16]
def k0_off16 (k0_t2 : Fin k0_t2_loop.trips) (c1_i32_29 : BitVec 32) (c0_i32_33 : BitVec 32) : Fin 1 → Nat :=
  let c2_i32_28 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v658 : BitVec 32 := Scalar.muli c2_i32_28 v13
  let v659 : BitVec 32 := Scalar.addi v658 c1_i32_29
  let c64_i32_32 : BitVec 32 := 64#32
  let v666 : BitVec 32 := Scalar.muli v659 c64_i32_32
  let v667 : BitVec 32 := Scalar.addi v666 c0_i32_33
  let v668 : Index := Scalar.indexCast v667
  ![v668.toNat]
@[reducible] def k0_t4_loop : Scf.Loop 32 :=
  let c0_i32_166 : BitVec 32 := 0#32
  let c50_i32_167 : BitVec 32 := 50#32
  let v1292 : BitVec 32 := Scalar.addi c0_i32_166 c50_i32_167
  let c1_i32_168 : BitVec 32 := 1#32
  ⟨c0_i32_166, v1292, c1_i32_168⟩
def k0_off17 (k0_t4 : Fin k0_t4_loop.trips) : Fin 2 → Nat :=
  let c50_i32_466 : BitVec 32 := 50#32
  let c0_i32_166 : BitVec 32 := 0#32
  let c1_i32_168 : BitVec 32 := 1#32
  let arg17 : BitVec 32 := Scf.iv c0_i32_166 c1_i32_168 k0_t4
  let v2594 : BitVec 32 := Scalar.addi c50_i32_466 arg17
  let v2596 : Index := Scalar.indexCast v2594
  let c0_468 : Index := 0#32
  ![v2596.toNat, 0]
def k0_off18 (k0_t4 : Fin k0_t4_loop.trips) : Fin 1 → Nat :=
  let c0_i32_166 : BitVec 32 := 0#32
  let c1_i32_168 : BitVec 32 := 1#32
  let arg17 : BitVec 32 := Scf.iv c0_i32_166 c1_i32_168 k0_t4
  let c32_i32_467 : BitVec 32 := 32#32
  let v2595 : BitVec 32 := Scalar.muli arg17 c32_i32_467
  let v2599 : Index := Scalar.indexCast v2595
  ![v2599.toNat]
def k0_off19 (k0_t4 : Fin k0_t4_loop.trips) : Fin 2 → Nat :=
  let c50_i32_466 : BitVec 32 := 50#32
  let c0_i32_166 : BitVec 32 := 0#32
  let c1_i32_168 : BitVec 32 := 1#32
  let arg17 : BitVec 32 := Scf.iv c0_i32_166 c1_i32_168 k0_t4
  let v2594 : BitVec 32 := Scalar.addi c50_i32_466 arg17
  let v2602 : Index := Scalar.indexCast v2594
  let c16_469 : Index := 16#32
  ![v2602.toNat, 16]
def k0_off20 (k0_t4 : Fin k0_t4_loop.trips) : Fin 1 → Nat :=
  let c0_i32_166 : BitVec 32 := 0#32
  let c1_i32_168 : BitVec 32 := 1#32
  let arg17 : BitVec 32 := Scf.iv c0_i32_166 c1_i32_168 k0_t4
  let c32_i32_467 : BitVec 32 := 32#32
  let v2595 : BitVec 32 := Scalar.muli arg17 c32_i32_467
  let c16_i32_470 : BitVec 32 := 16#32
  let v2605 : BitVec 32 := Scalar.addi v2595 c16_i32_470
  let v2606 : Index := Scalar.indexCast v2605
  ![v2606.toNat]
def k0_off21 (k0_t2 : Fin k0_t2_loop.trips) (c1_i32_29 : BitVec 32) : Fin 2 → Nat :=
  let c2_i32_28 : BitVec 32 := 2#32
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let v658 : BitVec 32 := Scalar.muli c2_i32_28 v13
  let v659 : BitVec 32 := Scalar.addi v658 c1_i32_29
  let v1296 : Index := Scalar.indexCast v659
  let c0_171 : Index := 0#32
  ![v1296.toNat, 0]
def k0_cond1 (k0_t2 : Fin k0_t2_loop.trips) : BitVec 1 :=
  let c0_i32_11 : BitVec 32 := 0#32
  let c1_i32_12 : BitVec 32 := 1#32
  let arg16 : BitVec 32 := Scf.iv c0_i32_11 c1_i32_12 k0_t2
  let c127_i32 : BitVec 32 := 127#32
  let v1300 : BitVec 1 := Scalar.cmpi .slt arg16 c127_i32
  let v1301 : BitVec 32 := Scalar.extui v1300
  let c0_i32_172 : BitVec 32 := 0#32
  let v1302 : BitVec 1 := Scalar.cmpi .ne v1301 c0_i32_172
  v1302

def k0_off22 (k0_t2 : Fin k0_t2_loop.trips) : Fin 2 → Nat :=
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let c2_i32_466 : BitVec 32 := 2#32
  let v2594 : BitVec 32 := Scalar.addi v13 c2_i32_466
  let c0_i32_467 : BitVec 32 := 0#32
  ![v2594.toNat, 0]
def k0_off23 (k0_t2 : Fin k0_t2_loop.trips) : Fin 2 → Nat :=
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let c1_i32_173 : BitVec 32 := 1#32
  let v1303 : BitVec 32 := Scalar.addi v13 c1_i32_173
  let c0_i32_174 : BitVec 32 := 0#32
  ![v1303.toNat, 0]
@[reducible] def k0_t5_loop : Scf.Loop 32 :=
  let c0_i32_315 : BitVec 32 := 0#32
  let c50_i32_316 : BitVec 32 := 50#32
  let v1941 : BitVec 32 := Scalar.addi c0_i32_315 c50_i32_316
  let c1_i32_317 : BitVec 32 := 1#32
  ⟨c0_i32_315, v1941, c1_i32_317⟩
def k0_off24 (k0_t5 : Fin k0_t5_loop.trips) : Fin 2 → Nat :=
  let c0_i32_466 : BitVec 32 := 0#32
  let c0_i32_315 : BitVec 32 := 0#32
  let c1_i32_317 : BitVec 32 := 1#32
  let arg17 : BitVec 32 := Scf.iv c0_i32_315 c1_i32_317 k0_t5
  let v2594 : BitVec 32 := Scalar.addi c0_i32_466 arg17
  let v2596 : Index := Scalar.indexCast v2594
  let c0_468 : Index := 0#32
  ![v2596.toNat, 0]
def k0_off25 (k0_t5 : Fin k0_t5_loop.trips) : Fin 1 → Nat :=
  let c0_i32_315 : BitVec 32 := 0#32
  let c1_i32_317 : BitVec 32 := 1#32
  let arg17 : BitVec 32 := Scf.iv c0_i32_315 c1_i32_317 k0_t5
  let c32_i32_467 : BitVec 32 := 32#32
  let v2595 : BitVec 32 := Scalar.muli arg17 c32_i32_467
  let v2599 : Index := Scalar.indexCast v2595
  ![v2599.toNat]
def k0_off26 (k0_t5 : Fin k0_t5_loop.trips) : Fin 2 → Nat :=
  let c0_i32_466 : BitVec 32 := 0#32
  let c0_i32_315 : BitVec 32 := 0#32
  let c1_i32_317 : BitVec 32 := 1#32
  let arg17 : BitVec 32 := Scf.iv c0_i32_315 c1_i32_317 k0_t5
  let v2594 : BitVec 32 := Scalar.addi c0_i32_466 arg17
  let v2602 : Index := Scalar.indexCast v2594
  let c16_469 : Index := 16#32
  ![v2602.toNat, 16]
def k0_off27 (k0_t5 : Fin k0_t5_loop.trips) : Fin 1 → Nat :=
  let c0_i32_315 : BitVec 32 := 0#32
  let c1_i32_317 : BitVec 32 := 1#32
  let arg17 : BitVec 32 := Scf.iv c0_i32_315 c1_i32_317 k0_t5
  let c32_i32_467 : BitVec 32 := 32#32
  let v2595 : BitVec 32 := Scalar.muli arg17 c32_i32_467
  let c16_i32_470 : BitVec 32 := 16#32
  let v2605 : BitVec 32 := Scalar.addi v2595 c16_i32_470
  let v2606 : Index := Scalar.indexCast v2605
  ![v2606.toNat]
@[reducible] def k0_t6_loop : Scf.Loop 32 :=
  let c0_i32_458 : BitVec 32 := 0#32
  let c50_i32_459 : BitVec 32 := 50#32
  let v2583 : BitVec 32 := Scalar.addi c0_i32_458 c50_i32_459
  let c1_i32_460 : BitVec 32 := 1#32
  ⟨c0_i32_458, v2583, c1_i32_460⟩
def k0_off28 (k0_t6 : Fin k0_t6_loop.trips) : Fin 2 → Nat :=
  let c50_i32_466 : BitVec 32 := 50#32
  let c0_i32_458 : BitVec 32 := 0#32
  let c1_i32_460 : BitVec 32 := 1#32
  let arg17 : BitVec 32 := Scf.iv c0_i32_458 c1_i32_460 k0_t6
  let v2594 : BitVec 32 := Scalar.addi c50_i32_466 arg17
  let v2596 : Index := Scalar.indexCast v2594
  let c0_468 : Index := 0#32
  ![v2596.toNat, 0]
def k0_off29 (k0_t6 : Fin k0_t6_loop.trips) : Fin 1 → Nat :=
  let c0_i32_458 : BitVec 32 := 0#32
  let c1_i32_460 : BitVec 32 := 1#32
  let arg17 : BitVec 32 := Scf.iv c0_i32_458 c1_i32_460 k0_t6
  let c32_i32_467 : BitVec 32 := 32#32
  let v2595 : BitVec 32 := Scalar.muli arg17 c32_i32_467
  let v2599 : Index := Scalar.indexCast v2595
  ![v2599.toNat]
def k0_off30 (k0_t6 : Fin k0_t6_loop.trips) : Fin 2 → Nat :=
  let c50_i32_466 : BitVec 32 := 50#32
  let c0_i32_458 : BitVec 32 := 0#32
  let c1_i32_460 : BitVec 32 := 1#32
  let arg17 : BitVec 32 := Scf.iv c0_i32_458 c1_i32_460 k0_t6
  let v2594 : BitVec 32 := Scalar.addi c50_i32_466 arg17
  let v2602 : Index := Scalar.indexCast v2594
  let c16_469 : Index := 16#32
  ![v2602.toNat, 16]
def k0_off31 (k0_t6 : Fin k0_t6_loop.trips) : Fin 1 → Nat :=
  let c0_i32_458 : BitVec 32 := 0#32
  let c1_i32_460 : BitVec 32 := 1#32
  let arg17 : BitVec 32 := Scf.iv c0_i32_458 c1_i32_460 k0_t6
  let c32_i32_467 : BitVec 32 := 32#32
  let v2595 : BitVec 32 := Scalar.muli arg17 c32_i32_467
  let c16_i32_470 : BitVec 32 := 16#32
  let v2605 : BitVec 32 := Scalar.addi v2595 c16_i32_470
  let v2606 : Index := Scalar.indexCast v2605
  ![v2606.toNat]
def k0_cond2 (k0_t2 : Fin k0_t2_loop.trips) : BitVec 1 :=
  let c0_i32_11 : BitVec 32 := 0#32
  let c1_i32_12 : BitVec 32 := 1#32
  let arg16 : BitVec 32 := Scf.iv c0_i32_11 c1_i32_12 k0_t2
  let c127_i32_464 : BitVec 32 := 127#32
  let v2591 : BitVec 1 := Scalar.cmpi .slt arg16 c127_i32_464
  let v2592 : BitVec 32 := Scalar.extui v2591
  let c0_i32_465 : BitVec 32 := 0#32
  let v2593 : BitVec 1 := Scalar.cmpi .ne v2592 c0_i32_465
  v2593

def k0_off32 (k0_t2 : Fin k0_t2_loop.trips) : Fin 2 → Nat :=
  let c2_i32 : BitVec 32 := 2#32
  let c0_i32_11 : BitVec 32 := 0#32
  let c1_i32_12 : BitVec 32 := 1#32
  let arg16 : BitVec 32 := Scf.iv c0_i32_11 c1_i32_12 k0_t2
  let v13 : BitVec 32 := Scalar.muli c2_i32 arg16
  let c3_i32_466 : BitVec 32 := 3#32
  let v2594 : BitVec 32 := Scalar.addi v13 c3_i32_466
  let c0_i32_467 : BitVec 32 := 0#32
  ![v2594.toNat, 0]
def k0_off33 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_14_r3 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_hist" => some ((1 / 50 : ℝ) : EReal)
  | _ => none
-- ==== ReferenceIdeal.lean ====
abbrev S16384 : Shape := ⟨1, ![16384]⟩
abbrev S16384x50 : Shape := ⟨2, ![16384, 50]⟩
abbrev S16384x1 : Shape := ⟨2, ![16384, 1]⟩
abbrev S1000000x32 : Shape := ⟨2, ![1000000, 32]⟩
abbrev S_ : Shape := ⟨0, ![]⟩
abbrev S1 : Shape := ⟨1, ![1]⟩
abbrev S1x1 : Shape := ⟨2, ![1, 1]⟩
abbrev S16384x32 : Shape := ⟨2, ![16384, 32]⟩
abbrev S16384x50x1 : Shape := ⟨3, ![16384, 50, 1]⟩
abbrev S1x1x1 : Shape := ⟨3, ![1, 1, 1]⟩
abbrev S16384x50x32 : Shape := ⟨3, ![16384, 50, 32]⟩
abbrev S16384x32x50 : Shape := ⟨3, ![16384, 32, 50]⟩
abbrev S16384x32x1 : Shape := ⟨3, ![16384, 32, 1]⟩
abbrev S16384x1x32 : Shape := ⟨3, ![16384, 1, 32]⟩
abbrev S16384x1x1 : Shape := ⟨3, ![16384, 1, 1]⟩

abbrev nBuf : Space → Nat
  | .hbm => 143
  | .vmem => 0
  | .smem => 0
  | _ => 0

abbrev hbmTy0_0 (i : Nat) : BufTy := match i % 128 with
  | 0 => ⟨S16384, .i32⟩
  | 1 => ⟨S16384, .i32⟩
  | 2 => ⟨S16384x50, .i32⟩
  | 3 => ⟨S16384x1, .f32⟩
  | 4 => ⟨S16384x50, .f32⟩
  | 5 => ⟨S1000000x32, .f32⟩
  | 6 => ⟨S1000000x32, .f32⟩
  | 7 => ⟨S1000000x32, .f32⟩
  | 8 => ⟨S1000000x32, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x32, .f32⟩
  | 28 => ⟨S16384x32, .i1⟩
  | 29 => ⟨S_, .f32⟩
  | 30 => ⟨S16384x32, .f32⟩
  | 31 => ⟨S16384x32, .f32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S1, .i32⟩
  | 41 => ⟨S_, .i32⟩
  | 42 => ⟨S16384x1, .i32⟩
  | 43 => ⟨S16384x1, .i1⟩
  | 44 => ⟨S1x1, .i32⟩
  | 45 => ⟨S16384x1, .i32⟩
  | 46 => ⟨S16384x1, .i1⟩
  | 47 => ⟨S16384x1, .i1⟩
  | 48 => ⟨S_, .i1⟩
  | 49 => ⟨S16384, .i1⟩
  | 50 => ⟨S16384x32, .f32⟩
  | 51 => ⟨S16384x32, .i1⟩
  | 52 => ⟨S_, .f32⟩
  | 53 => ⟨S16384x32, .f32⟩
  | 54 => ⟨S16384x32, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x32, .f32⟩
  | 74 => ⟨S16384x32, .i1⟩
  | 75 => ⟨S_, .f32⟩
  | 76 => ⟨S16384x32, .f32⟩
  | 77 => ⟨S16384x32, .f32⟩
  | 78 => ⟨S_, .i32⟩
  | 79 => ⟨S16384x50, .i32⟩
  | 80 => ⟨S16384x50, .i1⟩
  | 81 => ⟨S_, .i32⟩
  | 82 => ⟨S16384x50, .i32⟩
  | 83 => ⟨S16384x50, .i32⟩
  | 84 => ⟨S16384x50, .i32⟩
  | 85 => ⟨S16384x50x1, .i32⟩
  | 86 => ⟨S1, .i32⟩
  | 87 => ⟨S_, .i32⟩
  | 88 => ⟨S16384x50x1, .i32⟩
  | 89 => ⟨S16384x50x1, .i1⟩
  | 90 => ⟨S1x1x1, .i32⟩
  | 91 => ⟨S16384x50x1, .i32⟩
  | 92 => ⟨S16384x50x1, .i1⟩
  | 93 => ⟨S16384x50x1, .i1⟩
  | 94 => ⟨S_, .i1⟩
  | 95 => ⟨S16384x50, .i1⟩
  | 96 => ⟨S16384x50x32, .f32⟩
  | 97 => ⟨S16384x50x32, .i1⟩
  | 98 => ⟨S_, .f32⟩
  | 99 => ⟨S16384x50x32, .f32⟩
  | 100 => ⟨S16384x50x32, .f32⟩
  | 101 => ⟨S16384x32x50, .f32⟩
  | 102 => ⟨S_, .f32⟩
  | 103 => ⟨S16384x50, .f32⟩
  | 104 => ⟨S16384x50, .f32⟩
  | 105 => ⟨S_, .f32⟩
  | 106 => ⟨S16384x50, .f32⟩
  | 107 => ⟨S16384x50, .f32⟩
  | 108 => ⟨S16384x32x1, .f32⟩
  | 109 => ⟨S16384x32x50, .f32⟩
  | 110 => ⟨S16384x32x50, .f32⟩
  | 111 => ⟨S_, .f32⟩
  | 112 => ⟨S16384x50, .f32⟩
  | 113 => ⟨S16384x50, .f32⟩
  | 114 => ⟨S_, .f32⟩
  | 115 => ⟨S16384, .f32⟩
  | 116 => ⟨S_, .f32⟩
  | 117 => ⟨S16384, .f32⟩
  | 118 => ⟨S16384, .f32⟩
  | 119 => ⟨S16384x1x32, .f32⟩
  | 120 => ⟨S16384x32x1, .f32⟩
  | 121 => ⟨S16384x1x1, .f32⟩
  | 122 => ⟨S16384x1, .f32⟩
  | 123 => ⟨S16384x1, .f32⟩
  | 124 => ⟨S16384x1, .f32⟩
  | 125 => ⟨S_, .f32⟩
  | 126 => ⟨S16384x1, .f32⟩
  | 127 => ⟨S16384x1, .f32⟩
  | _ => ⟨S16384, .i32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S_, .f32⟩
  | 5 => ⟨S16384x1, .f32⟩
  | 6 => ⟨S16384x1, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v3 : Ref sig .tc := ⟨.hbm, 100, rfl⟩
abbrev main_v4 : Ref sig .tc := ⟨.hbm, 101, rfl⟩
abbrev main_cst : Ref sig .tc := ⟨.hbm, 102, rfl⟩
abbrev main_v5 : Ref sig .tc := ⟨.hbm, 103, rfl⟩
abbrev main_v6 : Ref sig .tc := ⟨.hbm, 104, rfl⟩
abbrev main_cst_0 : Ref sig .tc := ⟨.hbm, 105, rfl⟩
abbrev main_v7 : Ref sig .tc := ⟨.hbm, 106, rfl⟩
abbrev main_v8 : Ref sig .tc := ⟨.hbm, 107, rfl⟩
abbrev main_v9 : Ref sig .tc := ⟨.hbm, 108, rfl⟩
abbrev main_v10 : Ref sig .tc := ⟨.hbm, 109, rfl⟩
abbrev main_v11 : Ref sig .tc := ⟨.hbm, 110, rfl⟩
abbrev main_cst_1 : Ref sig .tc := ⟨.hbm, 111, rfl⟩
abbrev main_v12 : Ref sig .tc := ⟨.hbm, 112, rfl⟩
abbrev main_v13 : Ref sig .tc := ⟨.hbm, 113, rfl⟩
abbrev main_cst_2 : Ref sig .tc := ⟨.hbm, 114, rfl⟩
abbrev main_v14 : Ref sig .tc := ⟨.hbm, 115, rfl⟩
abbrev main_cst_3 : Ref sig .tc := ⟨.hbm, 116, rfl⟩
abbrev main_v15 : Ref sig .tc := ⟨.hbm, 117, rfl⟩
abbrev main_v16 : Ref sig .tc := ⟨.hbm, 118, rfl⟩
abbrev main_v17 : Ref sig .tc := ⟨.hbm, 119, rfl⟩
abbrev main_v18 : Ref sig .tc := ⟨.hbm, 120, rfl⟩
abbrev main_v19 : Ref sig .tc := ⟨.hbm, 121, rfl⟩
abbrev main_v20 : Ref sig .tc := ⟨.hbm, 122, rfl⟩
abbrev main_v21 : Ref sig .tc := ⟨.hbm, 123, rfl⟩
abbrev main_v22 : Ref sig .tc := ⟨.hbm, 124, rfl⟩
abbrev main_cst_4 : Ref sig .tc := ⟨.hbm, 125, rfl⟩
abbrev main_v23 : Ref sig .tc := ⟨.hbm, 126, rfl⟩
abbrev main_v24 : Ref sig .tc := ⟨.hbm, 127, rfl⟩
abbrev main_cst_5 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_cst_6 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_cst_7 : Ref sig .tc := ⟨.hbm, 137, rfl⟩
abbrev main_v32 : Ref sig .tc := ⟨.hbm, 138, rfl⟩
abbrev main_v33 : Ref sig .tc := ⟨.hbm, 139, rfl⟩
abbrev main_cst_8 : Ref sig .tc := ⟨.hbm, 140, rfl⟩
abbrev main_v34 : Ref sig .tc := ⟨.hbm, 141, rfl⟩
abbrev main_v35 : Ref sig .tc := ⟨.hbm, 142, rfl⟩

abbrev nD : Nat := 1
abbrev τ : Topo := Topo.v7x

variable {F : FTy → Type} [FloatOps F]
-- ==== Proof.Pre.lean ====
/-
  What the precondition says of the arrays: every word of the history names a row of the tables, and every distance is a
  nonnegative real.
-/
module

public import proofs.«01_k».proof.Proof.Gen.Pre_inputs_in_range
public import Idealize.ShloMosaic.Lib.ReduceAll
public import Idealize.ShloMosaic.Lib.Pointwise

@[expose] public section

noncomputable section

namespace Cert.Proof.Sc

open Idealize.ShloMosaic
open Cert.Pre_inputs_in_range

section

variable {F : FTy → Type} [FloatOps F]
  {a0 a1 : IVec S16384 32} {a2 : IVec S16384x50 32} {a3 : FVec F S16384x1 .f32} {a4 : FVec F S16384x50 .f32}
  {a5 a6 a7 a8 : FVec F S1000000x32 .f32}

instance : Subsingleton (Shape.Idx S_) := ⟨fun a b => funext fun k => k.elim0⟩

/-- The precondition's four conditions, each at every index. -/
theorem pre_parts (h : fn a0 a1 a2 a3 a4 a5 a6 a7 a8 = fun _ => 1#1) (x : S16384x50.Idx) :
    IntOp.cmpi .sge (a2 x) 0#32 = 1#1 ∧ IntOp.cmpi .slt (a2 x) 1000000#32 = 1#1
      ∧ FloatOps.cmpf .oge (a4 x) (FloatOps.ofBits .f32 0x00000000#32) = 1#1
      ∧ FloatOps.cmpf .olt (a4 x) (FloatOps.ofBits .f32 0x7F800000#32) = 1#1 := by
  have h1 := congrFun h (fun k => k.elim0)
  dsimp only [fn] at h1
  obtain ⟨h2, h4⟩ := IntOp.andi_eq_one.1 h1
  obtain ⟨h2, h3⟩ := IntOp.andi_eq_one.1 h2
  obtain ⟨h1, h2⟩ := IntOp.andi_eq_one.1 h2
  exact ⟨Host.reduce_andi_all _ _ _ _ _ h1 x, Host.reduce_andi_all _ _ _ _ _ h2 x,
    Host.reduce_andi_all _ _ _ _ _ h3 x, Host.reduce_andi_all _ _ _ _ _ h4 x⟩

/-- Every word of the history is below the number of rows. -/
theorem pre_hist (h : fn a0 a1 a2 a3 a4 a5 a6 a7 a8 = fun _ => 1#1) (x : S16384x50.Idx) : (a2 x).toNat < 1000000 := by
  obtain ⟨h1, h2, -, -⟩ := pre_parts h x
  rw [IntOp.cmpi_sge] at h1
  rw [IntOp.cmpi_slt] at h2
  have e : (1000000#32 : BitVec 32).toInt = 1000000 := by decide
  have e0 : (0#32 : BitVec 32).toInt = 0 := by decide
  rw [e] at h2
  rw [e0] at h1
  rw [BitVec.toInt_eq_toNat_cond] at h1 h2
  have := (a2 x).isLt
  split at h1 <;> omega

end

/-- Every distance is a nonnegative real. -/
theorem pre_dist {a0 a1 : IVec S16384 32} {a2 : IVec S16384x50 32} {a3 : FVec Ideal S16384x1 .f32} {a4 : FVec Ideal S16384x50 .f32}
    {a5 a6 a7 a8 : FVec Ideal S1000000x32 .f32} (h : fn a0 a1 a2 a3 a4 a5 a6 a7 a8 = fun _ => 1#1) (x : S16384x50.Idx) :
    ∃ r : ℝ, 0 ≤ r ∧ a4 x = (r : EReal) := by
  obtain ⟨-, -, h3, h4⟩ := pre_parts h x
  have z : (FloatOps.ofBits .f32 0x00000000#32 : Ideal .f32) = (0 : EReal) := Ideal.ofBits_zero_f32
  have t : (FloatOps.ofBits .f32 0x7F800000#32 : Ideal .f32) = (⊤ : EReal) := by
    show Ideal.ofBits .f32 _ = _
    simp [Ideal.ofBits, Ideal.ieee]
  rw [z] at h3
  rw [t] at h4
  have ob : ∀ b : Bool, BitVec.ofBool b = 1#1 → b = true := by decide
  have h3' : (0 : EReal) ≤ a4 x := of_decide_eq_true (ob _ h3)
  have h4' : (a4 x : EReal) < ⊤ := of_decide_eq_true (ob _ h4)
  lift (a4 x : EReal) to ℝ using ⟨h4'.ne, (lt_of_lt_of_le EReal.bot_lt_zero h3').ne'⟩ with r hr
  exact ⟨r, by exact_mod_cast h3', rfl⟩

end Cert.Proof.Sc

end
-- ==== Proof.Trip.lean ====
/-
  What one trip of the kernel's main loop computes, written once. A trip handles four batch rows in the same way: it
  forms the 1600 products of one row's item vector with the roots of that row's distances, then sums them against
  the gathered neighbour rows. `rowK` is that text for one row, and `trip_eq` says that the trip's body is four of
  them around the two waits and the two gathers for the next trip.
-/
module

public import proofs.«01_k».proof.Proof.Gen.KernelIdeal
public import Idealize.ShloMosaic.Lib.Pipeline.Regions

@[expose] public section

noncomputable section

namespace Cert.Proof.Sc

open Cert.KernelIdeal Cert.KernelIdeal.Gen
open Idealize.ShloMosaic Idealize.SL.Sem

variable {F : FTy → Type} [FloatOps F] [Named F]

abbrev hist2M : Memref sig .scVector .hbm S8192x100 .i32 := Memref.whole main_v0_scv
abbrev distM : Memref sig .scVector .hbm S1048576 .f32 := Memref.whole main_v2_scv
abbrev hjM : Memref sig .scVector .hbm S16384x32 .f32 := Memref.whole main_v3_scv
abbrev tabM : Memref sig .scVector .hbm S1000000x128 .f32 := Memref.whole main_v6_scv
abbrev outM : Memref sig .scVector .hbm S16384x16 .f32 := Memref.whole main_v7_scv
abbrev histB : Memref sig .scVector .vmem S256x100 .i32 := Memref.whole cc0_scratch0
abbrev rootB : Memref sig .scVector .vmem S32768 .f32 := Memref.whole cc0_scratch1
abbrev itemB : Memref sig .scVector .vmem S512x32 .f32 := Memref.whole cc0_scratch2
abbrev nbrA : Memref sig .scVector .vmem S100x128 .f32 := Memref.whole cc0_scratch3
abbrev nbrB : Memref sig .scVector .vmem S100x128 .f32 := Memref.whole cc0_scratch4
abbrev prodB : Memref sig .scVector .vmem S1664 .f32 := Memref.whole cc0_scratch5
abbrev resB : Memref sig .scVector .vmem S512x16 .f32 := Memref.whole cc0_scratch6
/-- The million table rows as the kernel slices them: all of them. -/
abbrev tabV : Memref sig .scVector .hbm S1000000x128 .f32 :=
  tabM.slice (Rect.unit (s := S1000000x128) ![0, 0] S1000000x128.size inb_S1000000x128_S1000000x128_0_0) (fun _ => rfl)

/-- A processor's programs. -/
abbrev PTy (F : FTy → Type) (i : grid0.Coords) (α : Type) : Type 1 :=
  Prog (TpuEff nD τ sig (Elt F) Λ₀ (.scVector ((i 0).castLE hcore0) ((i 1).castLE hsub0))) α

/-- The history row at `o`, as the list of a gather. -/
abbrev listAt (o : Fin 2 → ℕ) (h : ∀ a, o a + S1x100.size a ≤ S256x100.size a) : Memref sig .scVector .vmem S100 .i32 :=
  (histB.slice (Rect.unit (s := S256x100) o S1x100.size h) (fun _ => rfl)).squeeze S100 squeezes_S1x100_S100

theorem slices_one {e : ℕ} (he : e < 16) : S16.Slices ![e] S1 :=
  ⟨rfl, fun a => by
    have : a = 0 := Subsingleton.elim _ _
    subst this
    show e + 1 ≤ 16
    omega⟩

theorem inb_prod {o : ℕ} (h : o + 16 ≤ 1664) : ∀ a, (![o] : Fin 1 → ℕ) a + S16.size a ≤ S1664.size a := fun a => by
  have : a = 0 := Subsingleton.elim _ _
  subst this
  exact h

/-- Writing sixteen products at `o`. -/
def putK {i : grid0.Coords} {α : Type} (o : ℕ) (h : o + 16 ≤ 1664) (w : FVec F S16 .f32) (k : PTy F i α) : PTy F i α :=
  .op (.load prodB (Rect.unit (s := S1664) ![o] S16.size (inb_prod h)).toLoadRect (View.loadsAt_vmem h_S16)) fun _ =>
  .op (.store prodB (Rect.unit (s := S1664) ![o] S16.size (inb_prod h)) (shapeCast S16 w shapeCasts_S16_S16) Finset.univ
    (View.stores_vmem_bits_univ h_S16 rfl) (.inl rfl)) fun _ => k

/-- The products of item coordinate `e` of a half, coordinate `d` of the row, with the row's 64 roots. -/
def coordK {i : grid0.Coords} {α : Type} (e : ℕ) (he : e < 16) (d : ℕ) (hd : d < 32) (hv f0 f1 f2 f3 : FVec F S16 .f32)
    (k : PTy F i α) : PTy F i α :=
  let v : FVec F S16 .f32 := broadcast S16 (extractAt ![0] (extractStridedSlice S1 ![e] hv (slices_one he)) inpos_S1_p0)
  putK (50 * d) (by omega) (mulf v f0) <| putK (50 * d + 16) (by omega) (mulf v f1) <|
    putK (50 * d + 32) (by omega) (mulf v f2) <| putK (50 * d + 48) (by omega) (mulf v f3) k

/-- The coordinates from the `e`-th of a half on, `n` of them. -/
def coordsK {i : grid0.Coords} {α : Type} (b : ℕ) (hb : b ≤ 16) (hv f0 f1 f2 f3 : FVec F S16 .f32) (k : PTy F i α) :
    (n e : ℕ) → n + e ≤ 16 → PTy F i α
  | 0, _, _ => k
  | n + 1, e, h => coordK e (by omega) (b + e) (by omega) hv f0 f1 f2 f3 (coordsK b hb hv f0 f1 f2 f3 k n (e + 1) (by omega))

/-- Where a row's accesses lie, as the kernel computes it. -/
structure RowAt where
  item0 : Fin 2 → ℕ
  item0_inb : ∀ a, item0 a + S1x16.size a ≤ S512x32.size a
  item1 : Fin 2 → ℕ
  item1_inb : ∀ a, item1 a + S1x16.size a ≤ S512x32.size a
  root : Fin 4 → Fin 1 → ℕ
  root_inb : ∀ r a, root r a + S16.size a ≤ S32768.size a
  nbr0 : Fin k0_t3_loop.trips → Fin 2 → ℕ
  nbr0_inb : ∀ t a, nbr0 t a + S1x16.size a ≤ S100x128.size a
  prod0 : Fin k0_t3_loop.trips → Fin 1 → ℕ
  prod0_inb : ∀ t a, prod0 t a + S16.size a ≤ S1664.size a
  nbr1 : Fin k0_t3_loop.trips → Fin 2 → ℕ
  nbr1_inb : ∀ t a, nbr1 t a + S1x16.size a ≤ S100x128.size a
  prod1 : Fin k0_t3_loop.trips → Fin 1 → ℕ
  prod1_inb : ∀ t a, prod1 t a + S16.size a ≤ S1664.size a
  res : Fin 2 → ℕ
  res_inb : ∀ a, res a + S1x16.size a ≤ S512x16.size a

/-- One step of a row's sum: two half rows of a neighbour against their products. -/
def sumStep {i : grid0.Coords} (R : RowAt) (g : Memref sig .scVector .vmem S100x128 .f32) (t : Fin k0_t3_loop.trips)
    (acc : FVec F S16 .f32) : PTy F i (FVec F S16 .f32) :=
  .op (.load g (Rect.unit (s := S100x128) (R.nbr0 t) S1x16.size (R.nbr0_inb t)).toLoadRect (View.loadsAt_vmem h_S1x16)) fun x0 =>
  .op (.load prodB (Rect.unit (s := S1664) (R.prod0 t) S16.size (R.prod0_inb t)).toLoadRect (View.loadsAt_vmem h_S16)) fun w0 =>
  .op (.load g (Rect.unit (s := S100x128) (R.nbr1 t) S1x16.size (R.nbr1_inb t)).toLoadRect (View.loadsAt_vmem h_S1x16)) fun x1 =>
  .op (.load prodB (Rect.unit (s := S1664) (R.prod1 t) S16.size (R.prod1_inb t)).toLoadRect (View.loadsAt_vmem h_S16)) fun w1 =>
  .ret (addf (addf acc (mulf (shapeCast S16 x0 shapeCasts_S1x16_S16) (shapeCast S16 w0 shapeCasts_S16_S16)))
    (mulf (shapeCast S16 x1 shapeCasts_S1x16_S16) (shapeCast S16 w1 shapeCasts_S16_S16)))

/-- A row's sum and its write to the results. -/
def sumK {i : grid0.Coords} {α : Type} (R : RowAt) (g : Memref sig .scVector .vmem S100x128 .f32) (k : PTy F i α) : PTy F i α :=
  Scf.Loop.for k0_t3_loop k0_t3_ok (broadcast S16 (Scalar.ofBits (F := F) .f32 0x00000000#32)) (sumStep R g) >>= fun acc =>
  .op (.load resB (Rect.unit (s := S512x16) R.res S1x16.size R.res_inb).toLoadRect (View.loadsAt_vmem h_S1x16)) fun _ =>
  .op (.store resB (Rect.unit (s := S512x16) R.res S1x16.size R.res_inb)
    (shapeCast S1x16 (mulf acc (broadcast S16 (Named.named κ "inv_hist" 0x3CA3D70A#32))) shapeCasts_S16_S1x16) Finset.univ
    (View.stores_vmem_bits_univ h_S1x16 rfl) (.inl rfl)) fun _ => k

/-- One row, then `k`. -/
def rowK {i : grid0.Coords} {α : Type} (R : RowAt) (g : Memref sig .scVector .vmem S100x128 .f32) (k : PTy F i α) : PTy F i α :=
  .op (.load itemB (Rect.unit (s := S512x32) R.item0 S1x16.size R.item0_inb).toLoadRect (View.loadsAt_vmem h_S1x16)) fun x0 =>
  .op (.load itemB (Rect.unit (s := S512x32) R.item1 S1x16.size R.item1_inb).toLoadRect (View.loadsAt_vmem h_S1x16)) fun x1 =>
  .op (.load rootB (Rect.unit (s := S32768) (R.root 0) S16.size (R.root_inb 0)).toLoadRect (View.loadsAt_vmem h_S16)) fun f0 =>
  .op (.load rootB (Rect.unit (s := S32768) (R.root 1) S16.size (R.root_inb 1)).toLoadRect (View.loadsAt_vmem h_S16)) fun f1 =>
  .op (.load rootB (Rect.unit (s := S32768) (R.root 2) S16.size (R.root_inb 2)).toLoadRect (View.loadsAt_vmem h_S16)) fun f2 =>
  .op (.load rootB (Rect.unit (s := S32768) (R.root 3) S16.size (R.root_inb 3)).toLoadRect (View.loadsAt_vmem h_S16)) fun f3 =>
  coordsK 0 (by omega) (shapeCast S16 x0 shapeCasts_S1x16_S16) (shapeCast S16 f0 shapeCasts_S16_S16) (shapeCast S16 f1 shapeCasts_S16_S16)
    (shapeCast S16 f2 shapeCasts_S16_S16) (shapeCast S16 f3 shapeCasts_S16_S16)
    (coordsK 16 (by omega) (shapeCast S16 x1 shapeCasts_S1x16_S16) (shapeCast S16 f0 shapeCasts_S16_S16) (shapeCast S16 f1 shapeCasts_S16_S16)
      (shapeCast S16 f2 shapeCasts_S16_S16) (shapeCast S16 f3 shapeCasts_S16_S16) (sumK R g k) 16 0 (by omega)) 16 0 (by omega)

/-- The first row of a trip. -/
def row0 (t : Fin k0_t2_loop.trips) : RowAt where
  item0 := k0_off6 t
  item0_inb := k0_off6_inb t
  item1 := k0_off7 t
  item1_inb := k0_off7_inb t
  root r := k0_off8 t (BitVec.ofNat 32 (16 * r.val))
  root_inb := k0_off8_inb t
  nbr0 := k0_off9
  nbr0_inb := k0_off9_inb
  prod0 := k0_off10
  prod0_inb := k0_off10_inb
  nbr1 := k0_off11
  nbr1_inb := k0_off11_inb
  prod1 := k0_off12
  prod1_inb := k0_off12_inb
  res := k0_off13 t
  res_inb := k0_off13_inb t

/-- The second row of a trip. -/
def row1 (t : Fin k0_t2_loop.trips) : RowAt where
  item0 := k0_off14 t 1#32
  item0_inb := k0_off14_inb t 0
  item1 := k0_off15 t 1#32
  item1_inb := k0_off15_inb t 0
  root r := k0_off16 t 1#32 (BitVec.ofNat 32 (16 * r.val))
  root_inb := k0_off16_inb t 0
  nbr0 := k0_off17
  nbr0_inb := k0_off17_inb
  prod0 := k0_off18
  prod0_inb := k0_off18_inb
  nbr1 := k0_off19
  nbr1_inb := k0_off19_inb
  prod1 := k0_off20
  prod1_inb := k0_off20_inb
  res := k0_off21 t 1#32
  res_inb := k0_off21_inb t 0

/-- The third row of a trip. -/
def row2 (t : Fin k0_t2_loop.trips) : RowAt where
  item0 := k0_off14 t 2#32
  item0_inb := k0_off14_inb t 1
  item1 := k0_off15 t 2#32
  item1_inb := k0_off15_inb t 1
  root r := k0_off16 t 2#32 (BitVec.ofNat 32 (16 * r.val))
  root_inb := k0_off16_inb t 1
  nbr0 := k0_off24
  nbr0_inb := k0_off24_inb
  prod0 := k0_off25
  prod0_inb := k0_off25_inb
  nbr1 := k0_off26
  nbr1_inb := k0_off26_inb
  prod1 := k0_off27
  prod1_inb := k0_off27_inb
  res := k0_off21 t 2#32
  res_inb := k0_off21_inb t 1

/-- The fourth row of a trip. -/
def row3 (t : Fin k0_t2_loop.trips) : RowAt where
  item0 := k0_off14 t 3#32
  item0_inb := k0_off14_inb t 2
  item1 := k0_off15 t 3#32
  item1_inb := k0_off15_inb t 2
  root r := k0_off16 t 3#32 (BitVec.ofNat 32 (16 * r.val))
  root_inb := k0_off16_inb t 2
  nbr0 := k0_off28
  nbr0_inb := k0_off28_inb
  prod0 := k0_off29
  prod0_inb := k0_off29_inb
  nbr1 := k0_off30
  nbr1_inb := k0_off30_inb
  prod1 := k0_off31
  prod1_inb := k0_off31_inb
  res := k0_off21 t 3#32
  res_inb := k0_off21_inb t 2

/-- The gather for the next trip's first list, if there is a next trip. -/
def nextA {i : grid0.Coords} {α : Type} (t : Fin k0_t2_loop.trips) (k : PTy F i α) : PTy F i α :=
  if h : k0_cond1 t = 1#1 then
    SparseCore.enqueueIndirectGather rfl tabV nbrA gathers_S1000000x128_S100x128 (listAt (k0_off22 t) (k0_off22_inb t h)) rfl cc0_scratch7.sem
      (View.wordExact_bits rfl) rfl (Or.inl rfl) >>= fun _ => k
  else k

/-- The gather for the next trip's second list, if there is a next trip. -/
def nextB {i : grid0.Coords} {α : Type} (t : Fin k0_t2_loop.trips) (k : PTy F i α) : PTy F i α :=
  if h : k0_cond2 t = 1#1 then
    SparseCore.enqueueIndirectGather rfl tabV nbrB gathers_S1000000x128_S100x128 (listAt (k0_off32 t) (k0_off32_inb t h)) rfl cc0_scratch8.sem
      (View.wordExact_bits rfl) rfl (Or.inl rfl) >>= fun _ => k
  else k

/-- One trip of the main loop. -/
def trip (i : grid0.Coords) (t : Fin k0_t2_loop.trips) : PTy F i PUnit :=
  SparseCore.waitIndirectGather cc0_scratch7.sem tabV nbrA (View.wordExact_bits rfl) (Memref.isWhole_whole _).wordExact >>= fun _ =>
  rowK (row0 t) nbrA <| rowK (row1 t) nbrA <| nextA t <|
  (SparseCore.waitIndirectGather cc0_scratch8.sem tabV nbrB (View.wordExact_bits rfl) (Memref.isWhole_whole _).wordExact >>= fun _ =>
  rowK (row2 t) nbrB <| rowK (row3 t) nbrB <| nextB t <| .ret ⟨⟩)

end Cert.Proof.Sc

end
-- ==== Proof.Base.lean ====
/-
  The program as the launch theorem sees it, the ghost state of the whole proof, and the reading and writing of the
  buffers by coordinates.

  The ghost state has three parts: the rounds of the SparseCore handshakes, the rounds of the TensorCore kernel's
  pipeline, and the counters of the tiles' own transfers.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.ValueIdxCore
public import Idealize.ShloMosaic.Lib.WritesUnit
public import Idealize.ShloMosaic.Lib.ViewIndex
public import Idealize.ShloMosaic.Lib.Pipeline.Value
public import Idealize.ShloMosaic.Lib.Tactic

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds in the ghost state. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The tile that runs the kernel at grid point `i`. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-! ## Reading and writing by coordinates -/

/-- Sixteen elements of a list, from `o` on, replaced by `w`. -/
def put1 {α : Type} {n : ℕ} (o : ℕ) (w : S16.Idx → α) (f : (⟨1, ![n]⟩ : Shape).Idx → α) : (⟨1, ![n]⟩ : Shape).Idx → α :=
  fun y => if h : o ≤ (y 0).val ∧ (y 0).val < o + 16 then w (ix1 ⟨(y 0).val - o, by omega⟩) else f y

/-- One row of sixteen columns replaced by `w`. -/
def putRow {α : Type} {n : ℕ} (r : ℕ) (w : Fin 16 → α) (f : (⟨2, ![n, 16]⟩ : Shape).Idx → α) : (⟨2, ![n, 16]⟩ : Shape).Idx → α :=
  fun y => if (y 0).val = r then w (y 1) else f y

variable {κ : Kind} {sp : Space} {e : EltTy} {Val : EltTy → Type}

/-- Sixteen elements of a list read at `o`. -/
theorem readAt1 {n : ℕ} (v : View sig κ sp ⟨1, ![n]⟩ e) (f : v.ty.Contents Val) (o : Fin 1 → ℕ)
    (h : ∀ a : Fin 1, o a + S16.size a ≤ (![n] : Fin 1 → ℕ) a) (k : ℕ) (hk : o = ![k]) (x : S16.Idx) (j : Fin n) (hj : j.val = k + (x 0).val) :
    v.readAt Val (Rect.unit (s := ⟨1, ![n]⟩) o S16.size h).toLoadRect f x = v.read Val f (ix1 j) := by
  subst hk
  refine congrArg (v.read Val f) (funext fun a => Fin.ext (match a with | 0 => ?_))
  show k + 1 * (x 0).val = j.val
  omega

/-- Sixteen columns of one row read. -/
theorem readAt2 {n m : ℕ} (v : View sig κ sp ⟨2, ![n, m]⟩ e) (f : v.ty.Contents Val) (o : Fin 2 → ℕ)
    (h : ∀ a : Fin 2, o a + S1x16.size a ≤ (![n, m] : Fin 2 → ℕ) a) (r k : ℕ) (hk : o = ![r, k]) (x : S1x16.Idx)
    (i : Fin n) (hi : i.val = r) (j : Fin m) (hj : j.val = k + (x 1).val) :
    v.readAt Val (Rect.unit (s := ⟨2, ![n, m]⟩) o S1x16.size h).toLoadRect f x = v.read Val f (ix2 i j) := by
  subst hk
  have h0 : (x 0).val = 0 := Nat.lt_one_iff.mp (x 0).isLt
  refine congrArg (v.read Val f) (Shape.idx_ext₂ ?_ ?_)
  · show r + 1 * (x 0).val = i.val
    omega
  · show k + 1 * (x 1).val = j.val
    omega

/-- A whole list after sixteen elements are stored at `o`. -/
theorem write1 {n : ℕ} (v : View sig κ sp ⟨1, ![n]⟩ e) (f : v.ty.Contents Val) (o : Fin 1 → ℕ)
    (h : ∀ a : Fin 1, o a + S16.size a ≤ (![n] : Fin 1 → ℕ) a) (k : ℕ) (hk : o = ![k]) (w : S16.Idx → Val e) :
    v.read Val ((v.slice (Rect.unit (s := ⟨1, ![n]⟩) o S16.size h)).write Val f w Finset.univ) = put1 k w (v.read Val f) := by
  funext y
  unfold put1
  split
  · rename_i hy
    exact View.read_writes_cons_unit_of_mem v f h w [] y (ix1 ⟨(y 0).val - k, by omega⟩) hk fun a => by
      obtain rfl : a = 0 := Subsingleton.elim _ _
      show (y 0).val = k + ((y 0).val - k)
      omega
  · rename_i hy
    exact View.read_writes_cons_unit_of_not_mem v f h w [] y hk (0 : Fin 1) (by
      show (y 0).val < k ∨ k + 16 ≤ (y 0).val
      omega)

/-- A whole table of sixteen columns after one row is stored. -/
theorem writeRow {n : ℕ} (v : View sig κ sp ⟨2, ![n, 16]⟩ e) (f : v.ty.Contents Val) (o : Fin 2 → ℕ)
    (h : ∀ a : Fin 2, o a + S1x16.size a ≤ (![n, 16] : Fin 2 → ℕ) a) (r : ℕ) (hk : o = ![r, 0]) (w : S1x16.Idx → Val e) :
    v.read Val ((v.slice (Rect.unit (s := ⟨2, ![n, 16]⟩) o S1x16.size h)).write Val f w Finset.univ)
      = putRow r (fun l => w (ix2 0 l)) (v.read Val f) := by
  funext y
  unfold putRow
  split
  · rename_i hy
    exact View.read_writes_cons_unit_of_mem v f h w [] y (ix2 0 (y 1)) hk fun a => by
      match a with
      | 0 => exact hy
      | 1 => exact (Nat.zero_add _).symm
  · rename_i hy
    exact View.read_writes_cons_unit_of_not_mem v f h w [] y hk (0 : Fin 2) (by
      show (y 0).val < r ∨ r + 1 ≤ (y 0).val
      omega)

/-- A vector cast to its own shape. -/
theorem cast_same {α : Type} (x : S16.Idx → α) (y : S16.Idx) : shapeCast S16 x shapeCasts_S16_S16 y = x y :=
  congrFun (shapeCast_self x _) y

/-- A one-row vector as a vector. -/
theorem cast_row {α : Type} (x : S1x16.Idx → α) (y : S16.Idx) : shapeCast S16 x shapeCasts_S1x16_S16 y = x (ix2 0 (y 0)) :=
  shapeCast_apply x _ _ _ (by rw [Shape.rowMajor_val_one, Shape.rowMajor_val_two]; show 0 * 16 + (y 0).val = (y 0).val; omega)

/-- A vector as a one-row vector. -/
theorem cast_col {α : Type} (x : S16.Idx → α) (l : Fin 16) : shapeCast S1x16 x shapeCasts_S16_S1x16 (ix2 0 l) = x (ix1 l) :=
  shapeCast_apply x _ _ _ (by rw [Shape.rowMajor_val_one, Shape.rowMajor_val_two]; show l.val = 0 * 16 + l.val; omega)

end Cert.Proof.Sc

end
-- ==== Proof.Row.lean ====
/-
  One batch row of the kernel's main loop, proved once for all four places where the loop's body has it: the 1600
  products of the row's item vector and roots are formed, and summed against the gathered neighbour rows.
-/
module

public import proofs.«01_k».proof.Proof.Base

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a row computes -/

/-- Product `k` of a row: item coordinate `k / 50` times root `k % 50`. -/
def prodAt (it rt : ℕ → F .f32) (k : ℕ) : F .f32 := FloatOps.mulf (it (k / 50)) (rt (k % 50))

/-- A row's sum in lane `l` after `e` neighbours. -/
def rowAcc (nb : ℕ → ℕ → F .f32) (pr : ℕ → F .f32) (l : ℕ) : ℕ → F .f32
  | 0 => Scalar.ofBits (F := F) .f32 0x00000000#32
  | e + 1 => FloatOps.addf (FloatOps.addf (rowAcc nb pr l e) (FloatOps.mulf (nb e l) (pr (32 * e + l))))
      (FloatOps.mulf (nb e (16 + l)) (pr (32 * e + 16 + l)))

/-- A row's result in lane `l`. -/
def rowOut (nb : ℕ → ℕ → F .f32) (it rt : ℕ → F .f32) (l : ℕ) : F .f32 :=
  FloatOps.mulf (rowAcc nb (prodAt it rt) l 50) (Named.named κ "inv_hist" 0x3CA3D70A#32)

/-- The first `n` products are in place. -/
def Filled (it rt : ℕ → F .f32) (n : ℕ) (w : S1664.Idx → F .f32) : Prop := ∀ k : Fin 1664, k.val < n → w (ix1 k) = prodAt it rt k.val

theorem Filled.put {it rt : ℕ → F .f32} {o n n' : ℕ} {w : S1664.Idx → F .f32} {x : S16.Idx → F .f32} (h : Filled it rt n w)
    (hn : o ≤ n) (hn' : n' ≤ o + 16) (hx : ∀ l : Fin 16, o + l.val < n' → x (ix1 l) = prodAt it rt (o + l.val)) :
    Filled it rt n' (put1 o x w) := fun k hk => by
  unfold put1
  split
  · rename_i hy
    have hy' : o ≤ k.val ∧ k.val < o + 16 := hy
    refine (hx ⟨k.val - o, by omega⟩ (show o + (k.val - o) < n' by omega)).trans ?_
    show prodAt it rt (o + (k.val - o)) = _
    rw [show o + (k.val - o) = k.val by omega]
  · rename_i hy
    have hy' : ¬(o ≤ k.val ∧ k.val < o + 16) := hy
    exact h k (by omega)

/-- The product buffer, its first `n` products in place. -/
def Prods (d : Dev nD) (i : grid0.Coords) (it rt : ℕ → F .f32) (n : ℕ) : sProp 𝕄 :=
  iprop(∃ w : S1664.Idx → F .f32, (prodB.view.loc (thr d i) ↦{fullShare} w) ∗ ⌜Filled it rt n w⌝)

variable {d : Dev nD} {i : grid0.Coords}

theorem prod_write {o : ℕ} (h : o + 16 ≤ 1664) (x : S16.Idx → F .f32) (w : S1664.Idx → F .f32) :
    (prodB.access (Rect.unit (s := S1664) ![o] S16.size (inb_prod h))).write (Elt F) w x Finset.univ = put1 o x w :=
  write1 (Val := Elt F) prodB.view w ![o] (inb_prod h) o rfl x

theorem putK_wp {α : Type} {o : ℕ} {h : o + 16 ≤ 1664} {x : FVec F S16 .f32} {k : PTy F i α} {Q : α → sProp 𝕄} {it rt : ℕ → F .f32}
    {n n' : ℕ} (hn : o ≤ n) (hn' : n' ≤ o + 16) (hx : ∀ l : Fin 16, o + l.val < n' → x (ix1 l) = prodAt it rt (o + l.val)) :
    (Prods d i it rt n : sProp 𝕄) ⊢ iprop((Prods d i it rt n' -∗ wp frame (wpE defs₀ 𝒱₀ (thr d i) none) Set.univ k Q) -∗ wp frame (wpE defs₀ 𝒱₀ (thr d i) none) Set.univ (putK o h x k) Q) := by
  unfold Prods putK
  iintro ⟨%w, Hp, %hw⟩ Hk
  iapply (wp_load 𝒱₀ (thr d i) none Set.univ (m := prodB) (Finset.subset_univ _)) $$ Hp
  iintro Hp
  iapply (wp_store 𝒱₀ (thr d i) none Set.univ (m := prodB) (r := Rect.unit (s := S1664) ![o] S16.size (inb_prod h)) (f := w)
    (Finset.subset_univ _)) $$ Hp
  iintro Hp
  iapply Hk
  iexists _
  isplitl [Hp]
  · iexact Hp
  · ipureintro
    rw [shapeCast_self]
    exact @Eq.subst (S1664.Idx → F .f32) (Filled it rt n') _ _ (prod_write h x w).symm (hw.put hn hn' hx)

theorem coordK_wp {α : Type} {e : ℕ} {he : e < 16} {c : ℕ} {hc : c < 32} {hv f0 f1 f2 f3 : FVec F S16 .f32} {k : PTy F i α}
    {Q : α → sProp 𝕄} {it rt : ℕ → F .f32} (hit : hv (ix1 ⟨e, he⟩) = it c) (h0 : ∀ l : Fin 16, f0 (ix1 l) = rt l.val)
    (h1 : ∀ l : Fin 16, f1 (ix1 l) = rt (16 + l.val)) (h2 : ∀ l : Fin 16, f2 (ix1 l) = rt (32 + l.val))
    (h3 : ∀ l : Fin 16, f3 (ix1 l) = rt (48 + l.val)) :
    (Prods d i it rt (50 * c) : sProp 𝕄)
      ⊢ iprop((Prods d i it rt (50 * (c + 1)) -∗ wp frame (wpE defs₀ 𝒱₀ (thr d i) none) Set.univ k Q) -∗ wp frame (wpE defs₀ 𝒱₀ (thr d i) none) Set.univ (coordK e he c hc hv f0 f1 f2 f3 k) Q) := by
  have hv' (l : Fin 16) : broadcast S16 (extractAt ![0] (extractStridedSlice S1 ![e] hv (slices_one he)) inpos_S1_p0) (ix1 l) = it c := by
    rw [← hit]
    exact congrArg hv (funext fun a => Fin.ext (match a with | 0 => rfl))
  have key (q : ℕ) (f : FVec F S16 .f32) (hf : ∀ l : Fin 16, f (ix1 l) = rt (q + l.val)) (l : Fin 16) (hl : q + l.val < 50) :
      mulf (broadcast S16 (extractAt ![0] (extractStridedSlice S1 ![e] hv (slices_one he)) inpos_S1_p0)) f (ix1 l)
        = prodAt it rt (50 * c + q + l.val) := by
    show FloatOps.mulf _ _ = FloatOps.mulf _ _
    rw [hv' l, hf l, show (50 * c + q + l.val) / 50 = c by omega, show (50 * c + q + l.val) % 50 = q + l.val by omega]
  unfold coordK
  iintro Hp Hk
  iapply (putK_wp (n' := 50 * c + 16) (Nat.le_refl _) (Nat.le_refl _)
    (fun l _ => key 0 f0 (fun l => (h0 l).trans (congrArg rt (Nat.zero_add _).symm)) l (by omega))) $$ Hp
  iintro Hp
  iapply (putK_wp (n' := 50 * c + 32) (Nat.le_refl _) (Nat.le_refl _) (fun l _ => key 16 f1 h1 l (by omega))) $$ Hp
  iintro Hp
  iapply (putK_wp (n' := 50 * c + 48) (Nat.le_refl _) (Nat.le_refl _) (fun l _ => key 32 f2 h2 l (by omega))) $$ Hp
  iintro Hp
  iapply (putK_wp (n' := 50 * (c + 1)) (Nat.le_refl _) (by omega) (fun l hl => key 48 f3 h3 l (by omega))) $$ Hp
  iexact Hk

theorem coordsK_wp {α : Type} {b : ℕ} {hb : b ≤ 16} {hv f0 f1 f2 f3 : FVec F S16 .f32} {k : PTy F i α}
    {Q : α → sProp 𝕄} {it rt : ℕ → F .f32} (hit : ∀ l : Fin 16, hv (ix1 l) = it (b + l.val)) (h0 : ∀ l : Fin 16, f0 (ix1 l) = rt l.val)
    (h1 : ∀ l : Fin 16, f1 (ix1 l) = rt (16 + l.val)) (h2 : ∀ l : Fin 16, f2 (ix1 l) = rt (32 + l.val))
    (h3 : ∀ l : Fin 16, f3 (ix1 l) = rt (48 + l.val)) : ∀ (n e : ℕ) (h : n + e ≤ 16),
    (Prods d i it rt (50 * (b + e)) : sProp 𝕄)
      ⊢ iprop((Prods d i it rt (50 * (b + (n + e))) -∗ wp frame (wpE defs₀ 𝒱₀ (thr d i) none) Set.univ k Q) -∗ wp frame (wpE defs₀ 𝒱₀ (thr d i) none) Set.univ (coordsK b hb hv f0 f1 f2 f3 k n e h) Q)
  | 0, e, h => by
    rw [Nat.zero_add, coordsK]
    iintro Hp Hk
    iapply Hk
    iexact Hp
  | n + 1, e, h => by
    rw [coordsK, show n + 1 + e = n + (e + 1) by omega]
    iintro Hp Hk
    iapply (coordK_wp (hit ⟨e, _⟩) h0 h1 h2 h3) $$ Hp
    iintro Hp
    iapply (coordsK_wp hit h0 h1 h2 h3 n (e + 1) _) $$ Hp
    iexact Hk

/-! ## The sum -/

/-- Where row `r` of a tile's share, at neighbours `off` of its gather, has its accesses. -/
structure RowAt.Is (R : RowAt) (r off : ℕ) : Prop where
  item0 : R.item0 = ![r, 0]
  item1 : R.item1 = ![r, 16]
  root (q : Fin 4) : R.root q = ![64 * r + 16 * q.val]
  nbr0 (t : Fin k0_t3_loop.trips) : R.nbr0 t = ![off + t.val, 0]
  prod0 (t : Fin k0_t3_loop.trips) : R.prod0 t = ![32 * t.val]
  nbr1 (t : Fin k0_t3_loop.trips) : R.nbr1 t = ![off + t.val, 16]
  prod1 (t : Fin k0_t3_loop.trips) : R.prod1 t = ![32 * t.val + 16]
  res : R.res = ![r, 0]

theorem trips3 : k0_t3_loop.trips = 50 := by decide
theorem trips2 : k0_t2_loop.trips = 128 := by decide
theorem trips1 : k0_t1_loop.trips = 2048 := by decide

variable {g : Memref sig .scVector .vmem S100x128 .f32} {R : RowAt} {r off : ℕ}

/-- The neighbours of a row in the gathered rows `G`. -/
def nbOf (off : ℕ) (G : S100x128.Idx → F .f32) (e c : ℕ) : F .f32 := G (ix2 (Fin.ofNat 100 (off + e)) (Fin.ofNat 128 c))

theorem sumStep_wp (hR : R.Is r off) (hoff : off ≤ 50) {it rt : ℕ → F .f32} {w : S1664.Idx → F .f32} (hw : Filled it rt 1600 w)
    {q : PosShare TreeShare} (fg : Buf (Elt F) (g.view.loc (thr d i))) (t : Fin k0_t3_loop.trips) (acc : FVec F S16 .f32) :
    iprop(⌜acc = fun x => rowAcc (nbOf off (g.view.read (Elt F) fg)) (prodAt it rt) (x 0).val t.val⌝
        ∗ (g.view.loc (thr d i) ↦{q} fg) ∗ (prodB.view.loc (thr d i) ↦{fullShare} w) : sProp 𝕄)
      ⊢ wp frame (wpE defs₀ 𝒱₀ (thr d i) none) Set.univ (sumStep R g t acc) fun acc' => iprop(⌜acc' = fun x => rowAcc (nbOf off (g.view.read (Elt F) fg)) (prodAt it rt) (x 0).val (t.val + 1)⌝
        ∗ (g.view.loc (thr d i) ↦{q} fg) ∗ (prodB.view.loc (thr d i) ↦{fullShare} w)) := by
  have ht : t.val < 50 := trips3 ▸ t.isLt
  unfold sumStep
  iintro ⟨%hacc, Hg, Hp⟩
  iapply (wp_load 𝒱₀ (thr d i) none Set.univ (m := g) (Finset.subset_univ _)) $$ Hg
  iintro Hg
  iapply (wp_load 𝒱₀ (thr d i) none Set.univ (m := prodB) (Finset.subset_univ _)) $$ Hp
  iintro Hp
  iapply (wp_load 𝒱₀ (thr d i) none Set.univ (m := g) (Finset.subset_univ _)) $$ Hg
  iintro Hg
  iapply (wp_load 𝒱₀ (thr d i) none Set.univ (m := prodB) (Finset.subset_univ _)) $$ Hp
  iintro Hp
  rw [wp_ret]
  imodintro
  isplitr
  · ipureintro
    funext x
    have hx : (x 0).val < 16 := (x 0).isLt
    have ha : acc x = rowAcc (nbOf off (g.view.read (Elt F) fg)) (prodAt it rt) (x 0).val t.val := congrFun hacc x
    refine congrArg₂ FloatOps.addf (congrArg₂ FloatOps.addf ha (congrArg₂ FloatOps.mulf ?_ ?_)) (congrArg₂ FloatOps.mulf ?_ ?_)
    · refine (cast_row _ x).trans (readAt2 (Val := Elt F) g.view fg _ (R.nbr0_inb t) _ _ (hR.nbr0 t) _ _ (Nat.mod_eq_of_lt (by omega)) _ ?_)
      exact (Nat.mod_eq_of_lt (by omega)).trans (Nat.zero_add _).symm
    · refine (cast_same _ x).trans ((readAt1 (Val := Elt F) prodB.view w _ (R.prod0_inb t) _ (hR.prod0 t) x ⟨32 * t.val + (x 0).val, by omega⟩ rfl).trans ?_)
      exact hw _ (show 32 * t.val + (x 0).val < 1600 by omega)
    · refine (cast_row _ x).trans (readAt2 (Val := Elt F) g.view fg _ (R.nbr1_inb t) _ _ (hR.nbr1 t) _ _ (Nat.mod_eq_of_lt (by omega)) _ ?_)
      exact Nat.mod_eq_of_lt (by omega)
    · refine (cast_same _ x).trans ((readAt1 (Val := Elt F) prodB.view w _ (R.prod1_inb t) _ (hR.prod1 t) x ⟨32 * t.val + 16 + (x 0).val, by omega⟩ rfl).trans ?_)
      exact hw _ (show 32 * t.val + 16 + (x 0).val < 1600 by omega)
  · isplitl [Hg] <;> iassumption

theorem sumK_wp {α : Type} (hR : R.Is r off) (hoff : off ≤ 50) {it rt : ℕ → F .f32} {k : PTy F i α} {Q : α → sProp 𝕄}
    {q : PosShare TreeShare} (fg : Buf (Elt F) (g.view.loc (thr d i))) (fo : S512x16.Idx → F .f32) :
    iprop(Prods d i it rt 1600 ∗ (g.view.loc (thr d i) ↦{q} fg) ∗ (resB.view.loc (thr d i) ↦{fullShare} fo) : sProp 𝕄)
      ⊢ iprop((iprop(Prods d i it rt 0 ∗ (g.view.loc (thr d i) ↦{q} fg)
          ∗ (resB.view.loc (thr d i) ↦{fullShare} putRow r (fun l => rowOut (nbOf off (g.view.read (Elt F) fg)) it rt l.val) fo)) -∗ wp frame (wpE defs₀ 𝒱₀ (thr d i) none) Set.univ k Q)
        -∗ wp frame (wpE defs₀ 𝒱₀ (thr d i) none) Set.univ (sumK R g k) Q) := by
  unfold Prods sumK
  iintro ⟨⟨%w, Hp, %hw⟩, Hg, Hr⟩ Hk
  iapply (Scf.wp_for_bind frame (wpE defs₀ 𝒱₀ (thr d i) none) Set.univ _ _ _ _ _ _
    (fun t acc => iprop(⌜acc = fun x => rowAcc (nbOf off (g.view.read (Elt F) fg)) (prodAt it rt) (x 0).val t⌝
        ∗ (g.view.loc (thr d i) ↦{q} fg) ∗ (prodB.view.loc (thr d i) ↦{fullShare} w)))
    (fun t acc => sumStep_wp hR hoff hw fg t acc)) $$ [Hg Hp]
  · isplitr
    · ipureintro; rfl
    · isplitl [Hg] <;> iassumption
  iintro %acc ⟨%hacc, Hg, Hp⟩
  iapply (wp_load 𝒱₀ (thr d i) none Set.univ (m := resB) (Finset.subset_univ _)) $$ Hr
  iintro Hr
  iapply (wp_store 𝒱₀ (thr d i) none Set.univ (m := resB) (r := Rect.unit (s := S512x16) R.res S1x16.size R.res_inb) (f := fo)
    (Finset.subset_univ _)) $$ Hr
  iintro Hr
  iapply Hk
  isplitl [Hp]
  · iexists w
    isplitl [Hp]
    · iexact Hp
    · ipureintro; exact fun _ h => absurd h (Nat.not_lt_zero _)
  isplitl [Hg]
  · iexact Hg
  · have hst : (resB.access (Rect.unit (s := S512x16) R.res S1x16.size R.res_inb)).write (Elt F) fo
        (shapeCast S1x16 (mulf acc (broadcast S16 (Named.named κ "inv_hist" 0x3CA3D70A#32))) shapeCasts_S16_S1x16) Finset.univ
        = putRow r (fun l => rowOut (nbOf off (g.view.read (Elt F) fg)) it rt l.val) fo := by
      refine (writeRow (Val := Elt F) resB.view fo _ R.res_inb r hR.res _).trans (congrArg (fun z => putRow r z fo) (funext fun l => ?_))
      rw [cast_col]
      show FloatOps.mulf (acc (ix1 l)) _ = FloatOps.mulf _ _
      rw [hacc]
      rfl
    rw [← hst]
    iexact Hr

/-- One row. -/
theorem rowK_wp {α : Type} (hR : R.Is r off) (hr : r < 512) (hoff : off ≤ 50) {k : PTy F i α} {Q : α → sProp 𝕄}
    {q : PosShare TreeShare} (fg : Buf (Elt F) (g.view.loc (thr d i))) (fo : S512x16.Idx → F .f32)
    (fi : S512x32.Idx → F .f32) (fr : S32768.Idx → F .f32) :
    iprop(Prods d i (fun _ => fi (ix2 0 0)) (fun _ => fi (ix2 0 0)) 0 ∗ (g.view.loc (thr d i) ↦{q} fg) ∗ (resB.view.loc (thr d i) ↦{fullShare} fo)
        ∗ (itemB.view.loc (thr d i) ↦{fullShare} fi) ∗ (rootB.view.loc (thr d i) ↦{fullShare} fr) : sProp 𝕄)
      ⊢ iprop((iprop(Prods d i (fun _ => fi (ix2 0 0)) (fun _ => fi (ix2 0 0)) 0 ∗ (g.view.loc (thr d i) ↦{q} fg)
          ∗ (resB.view.loc (thr d i) ↦{fullShare} putRow r (fun l => rowOut (nbOf off (g.view.read (Elt F) fg))
              (fun e => fi (ix2 ⟨r, hr⟩ (Fin.ofNat 32 e))) (fun x => fr (ix1 (Fin.ofNat 32768 (64 * r + x)))) l.val) fo)
          ∗ (itemB.view.loc (thr d i) ↦{fullShare} fi) ∗ (rootB.view.loc (thr d i) ↦{fullShare} fr)) -∗ wp frame (wpE defs₀ 𝒱₀ (thr d i) none) Set.univ k Q)
        -∗ wp frame (wpE defs₀ 𝒱₀ (thr d i) none) Set.univ (rowK R g k) Q) := by
  have any {it rt it' rt' : ℕ → F .f32} : (Prods d i it rt 0 : sProp 𝕄) ⊢ Prods d i it' rt' 0 := by
    unfold Prods
    iintro ⟨%w, Hp, -⟩
    iexists w
    isplitl [Hp]
    · iexact Hp
    · ipureintro; exact fun _ h => absurd h (Nat.not_lt_zero _)
  have hroot (q : Fin 4) (l : Fin 16) : shapeCast S16 (rootB.view.readAt (Elt F) (Rect.unit (s := S32768) (R.root q) S16.size (R.root_inb q)).toLoadRect fr)
      shapeCasts_S16_S16 (ix1 l) = fr (ix1 (Fin.ofNat 32768 (64 * r + (16 * q.val + l.val)))) := by
    exact (cast_same _ _).trans (readAt1 (Val := Elt F) rootB.view fr _ (R.root_inb q) _ (hR.root q) (ix1 l) _
      ((Nat.mod_eq_of_lt (by omega)).trans (Nat.add_assoc _ _ _).symm))
  unfold rowK
  iintro ⟨Hp, Hg, Hr, Hi, Ht⟩ Hk
  iapply (wp_load 𝒱₀ (thr d i) none Set.univ (m := itemB) (Finset.subset_univ _)) $$ Hi
  iintro Hi
  iapply (wp_load 𝒱₀ (thr d i) none Set.univ (m := itemB) (Finset.subset_univ _)) $$ Hi
  iintro Hi
  iapply (wp_load 𝒱₀ (thr d i) none Set.univ (m := rootB) (Finset.subset_univ _)) $$ Ht
  iintro Ht
  iapply (wp_load 𝒱₀ (thr d i) none Set.univ (m := rootB) (Finset.subset_univ _)) $$ Ht
  iintro Ht
  iapply (wp_load 𝒱₀ (thr d i) none Set.univ (m := rootB) (Finset.subset_univ _)) $$ Ht
  iintro Ht
  iapply (wp_load 𝒱₀ (thr d i) none Set.univ (m := rootB) (Finset.subset_univ _)) $$ Ht
  iintro Ht
  ihave Hp := (any (it' := fun e => fi (ix2 ⟨r, hr⟩ (Fin.ofNat 32 e))) (rt' := fun x => fr (ix1 (Fin.ofNat 32768 (64 * r + x))))) $$ Hp
  iapply (coordsK_wp (b := 0) (fun l => ?_) (fun l => ?_) (hroot 1) (hroot 2) (hroot 3) 16 0 _) $$ Hp
  · exact (cast_row _ _).trans (readAt2 (Val := Elt F) itemB.view fi _ R.item0_inb _ _ hR.item0 _ ⟨r, hr⟩ rfl _ (Nat.mod_eq_of_lt (by have := l.isLt; omega)))
  · exact (hroot 0 l).trans (congrArg (fun z => fr (ix1 (Fin.ofNat 32768 (64 * r + z)))) (Nat.zero_add _))
  iintro Hp
  iapply (coordsK_wp (b := 16) (fun l => ?_) (fun l => ?_) (hroot 1) (hroot 2) (hroot 3) 16 0 _) $$ Hp
  · exact (cast_row _ _).trans (readAt2 (Val := Elt F) itemB.view fi _ R.item1_inb _ _ hR.item1 _ ⟨r, hr⟩ rfl _ (Nat.mod_eq_of_lt (by omega)))
  · exact (hroot 0 l).trans (congrArg (fun z => fr (ix1 (Fin.ofNat 32768 (64 * r + z)))) (Nat.zero_add _))
  iintro Hp
  iapply (sumK_wp hR hoff fg fo) $$ [Hp Hg Hr]
  · isplitl [Hp]
    · iexact Hp
    · isplitl [Hg] <;> iassumption
  iintro ⟨Hp, Hg, Hr⟩
  iapply Hk
  isplitl [Hp]
  · iapply any $$ Hp
  isplitl [Hg]
  · iexact Hg
  isplitl [Hr]
  · iexact Hr
  isplitl [Hi] <;> iassumption

end Cert.Proof.Sc

end
-- ==== Proof.Slot.lean ====
/-
  The gathers of neighbour rows. A gather reads a list of 100 table rows from the tile's history and brings them into
  one of two buffers; at the head of a trip each buffer is either under a gather in flight or idle.
-/
module

public import proofs.«01_k».proof.Proof.Row

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable {d : Dev nD} {i : grid0.Coords}

/-- The gathered rows `G` are the table's at list row `row`. -/
def Gathered (Hl : S256x100.Idx → BitVec 32) (Tb : S1000000x128.Idx → F .f32) (row : ℕ) (G : S100x128.Idx → F .f32) : Prop :=
  ∀ (a : Fin 100) (c : Fin 128), G (ix2 a c) = Tb (ix2 (Fin.ofNat 1000000 (Hl (ix2 (Fin.ofNat 256 row) a)).toNat) c)

theorem list_read (Hl : S256x100.Idx → BitVec 32) (o : Fin 2 → ℕ) (h : ∀ a, o a + S1x100.size a ≤ S256x100.size a) (row : ℕ)
    (hrow : row < 256) (ho : o = ![row, 0]) (a : Fin 100) :
    (listAt o h).view.read (Elt F) Hl (ix1 a) = Hl (ix2 (Fin.ofNat 256 row) a) := by
  subst ho
  have hx : Shape.reshapeEquiv (s := S1x100) squeezes_S1x100_S100.numel_eq (ix1 a) = ix2 (0 : Fin 1) a := Shape.reshapeEquiv_eq_of_rowMajor _ (by
    rw [Shape.rowMajor_val_one, Shape.rowMajor_val_two]
    show 0 * 100 + a.val = a.val
    omega)
  show Hl ((Rect.unit (s := S256x100) ![row, 0] S1x100.size h).emb (Shape.reshapeEquiv (s := S1x100) squeezes_S1x100_S100.numel_eq (ix1 a))) = _
  rw [hx]
  refine congrArg Hl (Shape.idx_ext₂ ?_ ?_)
  · show row + 1 * 0 = row % 256
    omega
  · show 0 + 1 * a.val = a.val
    omega

/-- What a gather hands back: the buffer with the list's rows, the shares of the table and the history. -/
def Got (d : Dev nD) (i : grid0.Coords) (g : Memref sig .scVector .vmem S100x128 .f32) (Hl : S256x100.Idx → BitVec 32)
    (Tb : S1000000x128.Idx → F .f32) (tq hq : PosShare TreeShare) (row : ℕ) : sProp 𝕄 :=
  iprop(∃ fg : Buf (Elt F) (g.view.loc (thr d i)), (g.view.loc (thr d i) ↦{fullShare} fg)
    ∗ ⌜row < 256 → Gathered Hl Tb row (g.view.read (Elt F) fg)⌝
    ∗ (tabV.view.loc (thr d i) ↦{tq} Tb) ∗ (histB.view.loc (thr d i) ↦{hq} Hl))

/-- A buffer at the head of a trip: the gather of list row `row` in flight, or, past the last row, idle. -/
def Slot (d : Dev nD) (i : grid0.Coords) (g : Memref sig .scVector .vmem S100x128 .f32) (sem : DmaSem sig) (Hl : S256x100.Idx → BitVec 32)
    (Tb : S1000000x128.Idx → F .f32) (tq hq : PosShare TreeShare) (row : ℕ) : sProp 𝕄 :=
  if row < 256 then Transfers.Flight countersEmb (thr d i) (.dma sem) (none : HIx 1) g.view.dmaCredit (Got d i g Hl Tb tq hq row)
  else iprop(Got d i g Hl Tb tq hq row ∗ semVal (thr d i, SemLoc.dma sem) 0)

/-- Waits recorded by a tile are on the entry's list or at no level. -/
def Owes (d : Dev nD) (i : grid0.Coords) (O : CellTallies nD τ sig (HIx 1)) (W : Waits sig (HIx 1)) : sProp 𝕄 :=
  iprop(∃ W' : Waits sig (HIx 1), ⌜∀ p ∈ W', p ∈ W ∨ p.2 = none⌝ ∗ owes (thr d i) O W')

/-- A wait with its transfer in flight. -/
theorem wait_wp {α : Type} {sp sp' : Space} {s s' : Shape} {e e' : EltTy} {κ' : Kind} {sem : DmaSem sig}
    {srcw : Memref sig (thr d i).2.kind sp' s' e'} {dstw : Memref sig κ' sp s e} {hsrc : srcw.view.WordExact} {hdst : dstw.view.WordExact}
    {k : PUnit → PTy F i α} {Q : α → sProp 𝕄} {N : ℕ} (hN : dstw.view.dmaCredit = N) {G : sProp 𝕄}
    {O : CellTallies nD τ sig (HIx 1)} {W : Waits sig (HIx 1)} :
    iprop(Transfers.MayWaits (thr d i) none O ∗ Transfers.Flight countersEmb (thr d i) (.dma sem) (none : HIx 1) N G ∗ Owes d i O W)
      ⊢ iprop((iprop(G ∗ semVal (thr d i, SemLoc.dma sem) 0 ∗ Owes d i O W) -∗ wp frame (wpE defs₀ 𝒱₀ (thr d i) none) Set.univ (k ⟨⟩) Q)
        -∗ wp frame (wpE defs₀ 𝒱₀ (thr d i) none) Set.univ (.op (.waitDma2 sem srcw dstw hsrc hdst) k) Q) := by
  unfold Owes
  iintro ⟨#Hm, Hf, ⟨%W', %hW, HO⟩⟩ Hk
  iapply (Transfers.wp_waitLocalO countersEmb 𝒱₀ (thr d i) none (none : HIx 1) hN) $$ [Hf HO]
  · isplitl [Hf]; · iexact Hf
    isplitl [HO]; · iexact HO
    iapply (Transfers.MayWaits.elim (SemLoc.dma sem)) $$ Hm
  iintro ⟨HG, Hv, HO⟩
  iapply Hk
  isplitl [HG]; · iexact HG
  isplitl [Hv]; · iexact Hv
  iexists (insert (SemLoc.dma sem, none) W')
  isplitr
  · ipureintro
    intro p hp
    rcases Finset.mem_insert.mp hp with hp | hp
    · exact .inr (congrArg Prod.snd hp)
    · exact hW p hp
  · iexact HO

/-- The wait for a gather. -/
theorem slot_wait {α : Type} {g : Memref sig .scVector .vmem S100x128 .f32} {sem : DmaSem sig} {hsrc : (tabV.view).WordExact}
    {hdst : g.view.WordExact} {k : PUnit → PTy F i α} {Q : α → sProp 𝕄} {Hl : S256x100.Idx → BitVec 32}
    {Tb : S1000000x128.Idx → F .f32} {tq hq : PosShare TreeShare} {row : ℕ} (hrow : row < 256)
    {O : CellTallies nD τ sig (HIx 1)} {W : Waits sig (HIx 1)} :
    iprop(Transfers.MayWaits (thr d i) none O ∗ Slot d i g sem Hl Tb tq hq row ∗ Owes d i O W : sProp 𝕄)
      ⊢ iprop((iprop(Got d i g Hl Tb tq hq row ∗ semVal (thr d i, SemLoc.dma sem) 0 ∗ Owes d i O W) -∗ wp frame (wpE defs₀ 𝒱₀ (thr d i) none) Set.univ (k ⟨⟩) Q)
        -∗ wp frame (wpE defs₀ 𝒱₀ (thr d i) none) Set.univ (SparseCore.waitIndirectGather sem tabV g hsrc hdst >>= k) Q) := by
  unfold Slot
  rw [if_pos hrow]
  exact wait_wp rfl

theorem gather_credit (g : Memref sig .scVector .vmem S100x128 .f32) (h : S1000000x128.Gathers 0 S100x128) :
    ∑ j, (g.slice (S100x128.rowRect h.axis' j) (S100x128.stride_rowRect h.axis' j)).view.dmaCredit = g.view.dmaCredit :=
  SparseCore.sum_rowCredit_eq_dmaCredit g h.axis' fun _ => rfl

theorem gathered_rows {Hl : S256x100.Idx → BitVec 32} (Tb : S1000000x128.Idx → F .f32) {o : Fin 2 → ℕ}
    {h : ∀ a, o a + S1x100.size a ≤ S256x100.size a} {row : ℕ} (hrow : row < 256) (ho : o = ![row, 0])
    (hn : S100.numel = S100x128.size gathers_S1000000x128_S100x128.axis')
    (hin : ∀ x, ((listAt o h).view.read (Elt F) Hl x).toNat < S1000000x128.size gathers_S1000000x128_S100x128.axis) :
    Gathered Hl Tb row (SparseCore.gatherPayload (F := F) (e := .f32) gathers_S1000000x128_S100x128 (tabV.view.read (Elt F) Tb)
      (SparseCore.rows ((listAt o h).view.read (Elt F) Hl) hn hin)) := fun a c => by
  have hk : S100.rowMajor.symm (Fin.cast hn.symm a) = ix1 a := by
    rw [Equiv.symm_apply_eq]
    exact Fin.ext (by rw [Shape.rowMajor_val_one]; rfl)
  refine congrArg Tb (Shape.idx_ext₂ ?_ ?_)
  · show 0 + 1 * ((listAt o h).view.read (Elt F) Hl (S100.rowMajor.symm (Fin.cast hn.symm a))).toNat = _ % 1000000
    rw [hk, list_read Hl o h row hrow ho]
    have := hin (ix1 a)
    rw [list_read Hl o h row hrow ho] at this
    have := Nat.mod_eq_of_lt (show (Hl (ix2 (Fin.ofNat 256 row) a)).toNat < 1000000 from this)
    show 0 + 1 * (Hl (ix2 (Fin.ofNat 256 row) a)).toNat = _
    omega
  · show 0 + 1 * c.val = c.val
    omega

/-- The start of a gather. -/
theorem slot_start {α : Type} {g : Memref sig .scVector .vmem S100x128 .f32} {sem : DmaSem sig} {hsrc : (tabV.view).WordExact}
    {k : PUnit → PTy F i α} {Q : α → sProp 𝕄} {Hl : S256x100.Idx → BitVec 32} (hH : ∀ x, (Hl x).toNat < 1000000)
    {Tb : S1000000x128.Idx → F .f32} {tq hq : PosShare TreeShare} {row row' : ℕ} (hrow : row < 256) {o : Fin 2 → ℕ}
    {h : ∀ a, o a + S1x100.size a ≤ S256x100.size a} (ho : o = ![row, 0]) {hn : S100.numel = S100x128.size gathers_S1000000x128_S100x128.axis'}
    {hp : (thr d i).2.kind = .scVector} {he : EltTy.f32.bits = 32} {hsp : Space.hbm = .hbm ∨ Space.hbm = .shared} {hr : S1000000x128.StreamRows 0} :
    iprop(Got d i g Hl Tb tq hq row' ∗ semVal (thr d i, SemLoc.dma sem) 0 : sProp 𝕄)
      ⊢ iprop((Slot d i g sem Hl Tb tq hq row -∗ wp frame (wpE defs₀ 𝒱₀ (thr d i) none) Set.univ (k ⟨⟩) Q)
        -∗ wp frame (wpE defs₀ 𝒱₀ (thr d i) none) Set.univ (SparseCore.enqueueIndirectGather hp tabV g gathers_S1000000x128_S100x128 (listAt o h) hn sem hsrc he hsp hr >>= k) Q) := by
  have hin : ∀ x, ((listAt o h).view.read (Elt F) Hl x).toNat < S1000000x128.size gathers_S1000000x128_S100x128.axis := fun x => by
    obtain ⟨a, rfl⟩ : ∃ a : Fin 100, x = ix1 a := ⟨x 0, funext fun b => match b with | 0 => rfl⟩
    rw [list_read Hl o h row hrow ho a]
    exact hH _
  unfold Slot
  rw [if_pos hrow]
  iintro ⟨Hg, Hv⟩ Hk
  unfold Got
  icases Hg with ⟨%fg, Hg, -, Ht, Hh⟩
  iapply (SparseCore.wp_gatherFromWhole countersEmb 𝒱₀ (thr d i) none (hg := gathers_S1000000x128_S100x128) (none : HIx 1)
      g.view.dmaCredit (gather_credit g _) (by decide) hin) $$ [Hg Hv Ht Hh]
  · isplitl [Ht]; · iexact Ht
    isplitl [Hg]; · iexact Hg
    isplitl [Hh]; · iexact Hh
    iexact Hv
  iintro Hf
  iapply Hk
  iapply (Transfers.Flight_mono countersEmb (thr d i) ?_) $$ Hf
  iintro ⟨Hg, Ht, Hh⟩
  iexists _
  isplitl [Hg]; · iexact Hg
  isplitr
  · ipureintro
    intro _
    rw [View.read_write_univ]
    exact gathered_rows Tb hrow ho hn hin
  isplitl [Ht]; · iexact Ht
  iexact Hh

end Cert.Proof.Sc

end
-- ==== Proof.TripEq.lean ====
/-
  The kernel's body is its start, the loop of `trip`s and its end.
-/
module

public import proofs.«01_k».proof.Proof.Trip
public import Idealize.ShloMosaic.Lib.Tactic

@[expose] public section

noncomputable section

namespace Cert.Proof.Sc

open Cert.KernelIdeal Cert.KernelIdeal.Gen
open Idealize.ShloMosaic Idealize.SL.Sem

variable {F : FTy → Type} [FloatOps F] [Named F]

universe u

theorem dite_bind {E : Type → Type u} {α β : Type} {c : Prop} [Decidable c] (a : c → Prog E α) (b : ¬ c → Prog E α) (f : α → Prog E β) :
    (dite c a b >>= f) = if h : c then a h >>= f else b h >>= f := by
  split <;> rfl

/-- The copy of a processor's results out to their block. -/
def copyOut (i : grid0.Coords) : PTy F i PUnit :=
  .op (.enqueueDma resB (.here (outM.slice (Rect.unit (s := S16384x16) (k0_off33 i) S512x16.size (k0_off33_inb i)) (fun _ => rfl)))
    (.dma cc0_scoped3.sem) (Memref.isWhole_whole _).wordExact (View.wordExact_bits rfl) ⟨Or.inl rfl, trivial⟩) fun _ =>
  .op (.waitDma2 cc0_scoped3.sem resB (outM.slice (Rect.unit (s := S16384x16) (k0_off33 i) S512x16.size (k0_off33_inb i)) (fun _ => rfl))
    (Memref.isWhole_whole _).wordExact (View.wordExact_bits rfl)) fun _ => .ret ⟨⟩

/-- The kernel's function on one processor's buffers. -/
abbrev bodyAt (i : grid0.Coords) : PTy F i PUnit :=
  cc0__sc_body i hist2M (Memref.isWhole_whole _) distM (Memref.isWhole_whole _) hjM (Memref.isWhole_whole _) tabM (Memref.isWhole_whole _)
    outM (Memref.isWhole_whole _) histB (Memref.isWhole_whole _) rootB (Memref.isWhole_whole _) itemB (Memref.isWhole_whole _)
    nbrA (Memref.isWhole_whole _) nbrB (Memref.isWhole_whole _) prodB (Memref.isWhole_whole _) resB (Memref.isWhole_whole _)
    cc0_scratch7 cc0_scratch8 cc0_scoped0 cc0_scoped1 cc0_scoped2 cc0_scoped3

/-- The kernel's function before its main loop. -/
abbrev startAt (i : grid0.Coords) : PTy F i PUnit :=
  k0_part63 i hist2M (Memref.isWhole_whole _) distM (Memref.isWhole_whole _) hjM (Memref.isWhole_whole _) tabM (Memref.isWhole_whole _)
    outM (Memref.isWhole_whole _) histB (Memref.isWhole_whole _) rootB (Memref.isWhole_whole _) itemB (Memref.isWhole_whole _)
    nbrA (Memref.isWhole_whole _) nbrB (Memref.isWhole_whole _) prodB (Memref.isWhole_whole _) resB (Memref.isWhole_whole _)
    cc0_scratch7 cc0_scratch8 cc0_scoped0 cc0_scoped1 cc0_scoped2 cc0_scoped3

set_option maxRecDepth 100000 in
theorem body_eq (i : grid0.Coords) :
    bodyAt (F := F) i = (startAt i >>= fun _ => Scf.Loop.for k0_t2_loop k0_t2_ok (⟨⟩ : PUnit) (fun t _ => trip i t) >>= fun _ => copyOut i) := by
  unfold bodyAt cc0__sc_body
  refine congrArg (bind _) (funext fun _ => congrArg (· >>= _) (congrArg (Scf.Loop.for k0_t2_loop k0_t2_ok (⟨⟩ : PUnit)) (funext fun t => funext fun _ => ?_)))
  unfold k0_part62
  simp only [bind_assoc]
  unfold k0_part16 k0_part31 k0_part46
  simp only [bind_assoc, dite_bind]
  chain_rfl

end Cert.Proof.Sc

end
-- ==== Proof.Loop.lean ====
/-
  The kernel's main loop on one tile: 128 trips of four batch rows. Before trip `t` the first `4 t` result rows are in
  place and the gathers for the trip's two lists are in flight.
-/
module

public import proofs.«01_k».proof.Proof.Slot
public import proofs.«01_k».proof.Proof.TripEq

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable {d : Dev nD} {i : grid0.Coords}

/-! ## Where the four rows of a trip lie -/

theorem nbr_eq {o : ℕ → Fin 2 → ℕ} {off t c : ℕ} {x : Fin 2 → ℕ} (h : x = ![t + off, c]) : x = ![off + t, c] := by
  rw [h, Nat.add_comm]

theorem root_eq {x : Fin 1 → ℕ} {a b : ℕ} (h : x = ![a]) (hab : a = b) : x = ![b] := hab ▸ h

theorem row0_is (t : Fin k0_t2_loop.trips) : (row0 t).Is (4 * t.val) 0 where
  item0 := k0_off6_eq t
  item1 := k0_off7_eq t
  root q := root_eq (k0_off8_eq t q) (by omega)
  nbr0 u := nbr_eq (o := fun _ => k0_off9 u) (k0_off9_eq u)
  prod0 u := k0_off10_eq u
  nbr1 u := nbr_eq (o := fun _ => k0_off11 u) (k0_off11_eq u)
  prod1 u := k0_off12_eq u
  res := k0_off13_eq t

theorem row1_is (t : Fin k0_t2_loop.trips) : (row1 t).Is (4 * t.val + 1) 50 where
  item0 := k0_off14_eq t 0
  item1 := k0_off15_eq t 0
  root q := root_eq (k0_off16_eq t 0 q) (by show 256 * t.val + 64 * 0 + 16 * q.val + 64 = _; omega)
  nbr0 u := nbr_eq (o := fun _ => k0_off17 u) (k0_off17_eq u)
  prod0 u := k0_off18_eq u
  nbr1 u := nbr_eq (o := fun _ => k0_off19 u) (k0_off19_eq u)
  prod1 u := k0_off20_eq u
  res := k0_off21_eq t 0

theorem row2_is (t : Fin k0_t2_loop.trips) : (row2 t).Is (4 * t.val + 2) 0 where
  item0 := k0_off14_eq t 1
  item1 := k0_off15_eq t 1
  root q := root_eq (k0_off16_eq t 1 q) (by show 256 * t.val + 64 * 1 + 16 * q.val + 64 = _; omega)
  nbr0 u := nbr_eq (o := fun _ => k0_off24 u) (k0_off24_eq u)
  prod0 u := k0_off25_eq u
  nbr1 u := nbr_eq (o := fun _ => k0_off26 u) (k0_off26_eq u)
  prod1 u := k0_off27_eq u
  res := k0_off21_eq t 1

theorem row3_is (t : Fin k0_t2_loop.trips) : (row3 t).Is (4 * t.val + 3) 50 where
  item0 := k0_off14_eq t 2
  item1 := k0_off15_eq t 2
  root q := root_eq (k0_off16_eq t 2 q) (by show 256 * t.val + 64 * 2 + 16 * q.val + 64 = _; omega)
  nbr0 u := nbr_eq (o := fun _ => k0_off28 u) (k0_off28_eq u)
  prod0 u := k0_off29_eq u
  nbr1 u := nbr_eq (o := fun _ => k0_off30 u) (k0_off30_eq u)
  prod1 u := k0_off31_eq u
  res := k0_off21_eq t 2

theorem cond1_iff : ∀ t : Fin k0_t2_loop.trips, k0_cond1 t = 1#1 ↔ 2 * t.val + 2 < 256 := by decide +kernel
theorem cond2_iff : ∀ t : Fin k0_t2_loop.trips, k0_cond2 t = 1#1 ↔ 2 * t.val + 3 < 256 := by decide +kernel

/-! ## What a tile computes -/

/-- A tile's result for its row `r`, in lane `l`. -/
def locRow (Hl : S256x100.Idx → BitVec 32) (Tb : S1000000x128.Idx → F .f32) (fi : S512x32.Idx → F .f32) (fr : S32768.Idx → F .f32)
    (r l : ℕ) : F .f32 :=
  rowOut (fun e c => Tb (ix2 (Fin.ofNat 1000000 (Hl (ix2 (Fin.ofNat 256 (r / 2)) (Fin.ofNat 100 (50 * (r % 2) + e)))).toNat) (Fin.ofNat 128 c)))
    (fun e => fi (ix2 (Fin.ofNat 512 r) (Fin.ofNat 32 e))) (fun x => fr (ix1 (Fin.ofNat 32768 (64 * r + x)))) l

/-- The first `n` result rows are in place. -/
def Done (Hl : S256x100.Idx → BitVec 32) (Tb : S1000000x128.Idx → F .f32) (fi : S512x32.Idx → F .f32) (fr : S32768.Idx → F .f32)
    (n : ℕ) (fo : S512x16.Idx → F .f32) : Prop :=
  ∀ y : S512x16.Idx, (y 0).val < n → fo y = locRow Hl Tb fi fr (y 0).val (y 1).val

/-- The result buffer, its first `n` rows in place. -/
def Res (d : Dev nD) (i : grid0.Coords) (Hl : S256x100.Idx → BitVec 32) (Tb : S1000000x128.Idx → F .f32) (fi : S512x32.Idx → F .f32)
    (fr : S32768.Idx → F .f32) (n : ℕ) : sProp 𝕄 :=
  iprop(∃ fo : S512x16.Idx → F .f32, (resB.view.loc (thr d i) ↦{fullShare} fo) ∗ ⌜Done Hl Tb fi fr n fo⌝)

/-- What the rows of a trip work on besides the neighbours and the results. -/
def Work (d : Dev nD) (i : grid0.Coords) (fi : S512x32.Idx → F .f32) (fr : S32768.Idx → F .f32) : sProp 𝕄 :=
  iprop(Prods d i (fun _ => fi (ix2 0 0)) (fun _ => fi (ix2 0 0)) 0 ∗ (itemB.view.loc (thr d i) ↦{fullShare} fi)
    ∗ (rootB.view.loc (thr d i) ↦{fullShare} fr))

variable {Hl : S256x100.Idx → BitVec 32} {Tb : S1000000x128.Idx → F .f32} {fi : S512x32.Idx → F .f32} {fr : S32768.Idx → F .f32}
  {tq hq : PosShare TreeShare} {g : Memref sig .scVector .vmem S100x128 .f32}

/-- One row of a trip, from the gather of its list. -/
theorem row_wp {α : Type} {R : RowAt} {r off : ℕ} (hR : R.Is r off) (hr : r < 512) (hoff : off = 50 * (r % 2)) {row : ℕ} (hrow : row = r / 2)
    {k : PTy F i α} {Q : α → sProp 𝕄} :
    iprop(Got d i g Hl Tb tq hq row ∗ Res d i Hl Tb fi fr r ∗ Work d i fi fr : sProp 𝕄)
      ⊢ iprop((iprop(Got d i g Hl Tb tq hq row ∗ Res d i Hl Tb fi fr (r + 1) ∗ Work d i fi fr) -∗ wp frame (wpE defs₀ 𝒱₀ (thr d i) none) Set.univ k Q) -∗ wp frame (wpE defs₀ 𝒱₀ (thr d i) none) Set.univ (rowK R g k) Q) := by
  unfold Got Res Work
  iintro ⟨⟨%fg, Hg, %hg, Ht, Hh⟩, ⟨%fo, Ho, %hfo⟩, Hp, Hi, Hr⟩ Hk
  iapply (rowK_wp hR hr (by omega) fg fo fi fr) $$ [Hp Hg Ho Hi Hr]
  · isplitl [Hp]; · iexact Hp
    isplitl [Hg]; · iexact Hg
    isplitl [Ho]; · iexact Ho
    isplitl [Hi] <;> iassumption
  iintro ⟨Hp, Hg, Ho, Hi, Hr⟩
  iapply Hk
  isplitl [Hg Ht Hh]
  · iexists fg
    isplitl [Hg]; · iexact Hg
    isplitr
    · ipureintro; exact hg
    isplitl [Ht] <;> iassumption
  isplitl [Ho]
  · iexists _
    isplitl [Ho]; · iexact Ho
    ipureintro
    intro y hy
    unfold putRow
    split
    · rename_i hyr
      subst hoff hrow
      have hG := hg (by omega)
      rw [hyr]
      unfold locRow
      refine congrFun (congrArg₂ (fun a b => rowOut (F := F) a b _) (funext fun e => funext fun c => hG _ _) (funext fun e => ?_)) _
      exact congrArg (fun z => fi (ix2 z (Fin.ofNat 32 e))) (Fin.ext (Nat.mod_eq_of_lt hr).symm)
    · rename_i hyr
      exact hfo y (by have : (y 0).val ≠ r := hyr; omega)
  isplitl [Hp]; · iexact Hp
  isplitl [Hi] <;> iassumption

/-- The start of the gather for the next trip, when there is one. -/
theorem next_wp {α : Type} {sem : DmaSem sig} {c : Prop} [Decidable c] {a : c → PTy F i α} {k : PTy F i α} {Q : α → sProp 𝕄} {row row' : ℕ}
    (hc : c ↔ row < 256) {o : Fin 2 → ℕ} (ho : o = ![row, 0]) (hH : ∀ x, (Hl x).toNat < 1000000)
    {hsrc : (tabV.view).WordExact} {hn : S100.numel = S100x128.size gathers_S1000000x128_S100x128.axis'}
    {hp : (thr d i).2.kind = .scVector} {he : EltTy.f32.bits = 32} {hsp : Space.hbm = .hbm ∨ Space.hbm = .shared} {hr : S1000000x128.StreamRows 0}
    {inb : c → ∀ a, o a + S1x100.size a ≤ S256x100.size a}
    (ha : ∀ h, a h = SparseCore.enqueueIndirectGather hp tabV g gathers_S1000000x128_S100x128 (listAt o (inb h)) hn sem hsrc he hsp hr >>= fun _ => k) :
    iprop(Got d i g Hl Tb tq hq row' ∗ semVal (thr d i, SemLoc.dma sem) 0 : sProp 𝕄)
      ⊢ iprop((Slot d i g sem Hl Tb tq hq row -∗ wp frame (wpE defs₀ 𝒱₀ (thr d i) none) Set.univ k Q) -∗ wp frame (wpE defs₀ 𝒱₀ (thr d i) none) Set.univ (if h : c then a h else k) Q) := by
  by_cases h : c
  · rw [dif_pos h, ha h]
    exact slot_start (F := F) (d := d) (i := i) (g := g) (sem := sem) (k := fun _ => k) (Q := Q) (Tb := Tb) (row := row) hH (hc.mp h) ho
  · rw [dif_neg h]
    have hrow : ¬ row < 256 := fun h' => h (hc.mpr h')
    unfold Slot
    rw [if_neg hrow]
    unfold Got
    iintro ⟨⟨%fg, Hg, -, Ht, Hh⟩, Hv⟩ Hk
    iapply Hk
    isplitr [Hv]
    · iexists fg
      isplitl [Hg]; · iexact Hg
      isplitr
      · ipureintro; exact fun h => absurd h hrow
      isplitl [Ht] <;> iassumption
    · iexact Hv

variable {tA hA tB hB : PosShare TreeShare}

/-- Before trip `t`. -/
def Inv (d : Dev nD) (i : grid0.Coords) (Hl : S256x100.Idx → BitVec 32) (Tb : S1000000x128.Idx → F .f32) (fi : S512x32.Idx → F .f32)
    (fr : S32768.Idx → F .f32) (tA hA tB hB : PosShare TreeShare) (O : CellTallies nD τ sig (HIx 1)) (W : Waits sig (HIx 1)) (t : ℕ) : sProp 𝕄 :=
  iprop(Transfers.MayWaits (thr d i) none O ∗ Slot d i nbrA cc0_scratch7.sem Hl Tb tA hA (2 * t) ∗ Slot d i nbrB cc0_scratch8.sem Hl Tb tB hB (2 * t + 1)
    ∗ Res d i Hl Tb fi fr (4 * t) ∗ Work d i fi fr ∗ Owes d i O W)

theorem trip_wp (hH : ∀ x, (Hl x).toNat < 1000000) {O : CellTallies nD τ sig (HIx 1)} {W : Waits sig (HIx 1)} (t : Fin k0_t2_loop.trips) :
    (Inv d i Hl Tb fi fr tA hA tB hB O W t.val : sProp 𝕄) ⊢ wp frame (wpE defs₀ 𝒱₀ (thr d i) none) Set.univ (trip i t) fun _ => Inv d i Hl Tb fi fr tA hA tB hB O W (t.val + 1) := by
  have ht : t.val < 128 := trips2 ▸ t.isLt
  unfold Inv trip
  iintro ⟨#Hm, HA, HB, HR, HW, HO⟩
  iapply (slot_wait (row := 2 * t.val) (Hl := Hl) (Tb := Tb) (tq := tA) (hq := hA) (by omega)) $$ [HA HO]
  · isplitr; · iexact Hm
    isplitl [HA] <;> iassumption
  iintro ⟨HA, HvA, HO⟩
  iapply (row_wp (Hl := Hl) (Tb := Tb) (tq := tA) (hq := hA) (row := 2 * t.val) (row0_is t) (by omega) (by omega) (by omega)) $$ [HA HR HW]
  · isplitl [HA]; · iexact HA
    isplitl [HR] <;> iassumption
  iintro ⟨HA, HR, HW⟩
  iapply (row_wp (Hl := Hl) (Tb := Tb) (tq := tA) (hq := hA) (row := 2 * t.val) (row1_is t) (by omega) (by omega) (by omega)) $$ [HA HR HW]
  · isplitl [HA]; · iexact HA
    isplitl [HR] <;> iassumption
  iintro ⟨HA, HR, HW⟩
  unfold nextA
  iapply (next_wp (cond1_iff t) (k0_off22_eq t) hH (fun _ => rfl)) $$ [HA HvA]
  · isplitl [HA] <;> iassumption
  iintro HA
  iapply (slot_wait (row := 2 * t.val + 1) (Hl := Hl) (Tb := Tb) (tq := tB) (hq := hB) (by omega)) $$ [HB HO]
  · isplitr; · iexact Hm
    isplitl [HB] <;> iassumption
  iintro ⟨HB, HvB, HO⟩
  iapply (row_wp (Hl := Hl) (Tb := Tb) (tq := tB) (hq := hB) (row := 2 * t.val + 1) (row2_is t) (by omega) (by omega) (by omega)) $$ [HB HR HW]
  · isplitl [HB]; · iexact HB
    isplitl [HR] <;> iassumption
  iintro ⟨HB, HR, HW⟩
  iapply (row_wp (Hl := Hl) (Tb := Tb) (tq := tB) (hq := hB) (row := 2 * t.val + 1) (row3_is t) (by omega) (by omega) (by omega)) $$ [HB HR HW]
  · isplitl [HB]; · iexact HB
    isplitl [HR] <;> iassumption
  iintro ⟨HB, HR, HW⟩
  unfold nextB
  iapply (next_wp (cond2_iff t) (k0_off32_eq t) hH (fun _ => rfl)) $$ [HB HvB]
  · isplitl [HB] <;> iassumption
  iintro HB
  rw [wp_ret]
  imodintro
  isplitr; · iexact Hm
  isplitl [HA]; · iexact HA
  isplitl [HB]; · iexact HB
  isplitl [HR]; · iexact HR
  isplitl [HW] <;> iassumption

end Cert.Proof.Sc

end
-- ==== Proof.Tile.lean ====
/-
  One tile's run of the kernel: it copies in its share of the history, the distances and the item rows, takes the roots
  of the distances, runs the main loop and copies its 512 result rows out.
-/
module

public import proofs.«01_k».proof.Proof.Loop

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable {d : Dev nD} {i : grid0.Coords}

/-! ## The text, copy by copy -/

/-- A copy and its wait. -/
def copyK {α : Type} {sp sp' : Space} {s : Shape} {e : EltTy} (src : Memref sig .scVector sp s e) (dst : Memref sig .scVector sp' s e) (sem : DmaSem sig)
    (hsrc : src.view.WordExact) (hdst : dst.view.WordExact) (hsem : DmaTarget.Typed (nD := nD) (τ := τ) (p := .scVector ((i 0).castLE hcore0) ((i 1).castLE hsub0)) sp (.dma sem) (.here dst))
    (k : PTy F i α) : PTy F i α :=
  .op (.enqueueDma src (.here dst) (.dma sem) hsrc hdst hsem) fun _ => .op (.waitDma2 sem src dst hsrc hdst) fun _ => k

/-- The tile's history rows, distances and item rows, and its result rows. -/
abbrev histS (i : grid0.Coords) : Memref sig .scVector .hbm S256x100 .i32 :=
  hist2M.slice (Rect.unit (s := S8192x100) (k0_off1 i) S256x100.size (k0_off1_inb i)) (fun _ => rfl)
abbrev distS (i : grid0.Coords) : Memref sig .scVector .hbm S32768 .f32 :=
  distM.slice (Rect.unit (s := S1048576) (k0_off2 i) S32768.size (k0_off2_inb i)) (fun _ => rfl)
abbrev itemS (i : grid0.Coords) : Memref sig .scVector .hbm S512x32 .f32 :=
  hjM.slice (Rect.unit (s := S16384x32) (k0_off3 i) S512x32.size (k0_off3_inb i)) (fun _ => rfl)
abbrev outS (i : grid0.Coords) : Memref sig .scVector .hbm S512x16 .f32 :=
  outM.slice (Rect.unit (s := S16384x16) (k0_off33 i) S512x16.size (k0_off33_inb i)) (fun _ => rfl)

/-- Sixteen roots. -/
def rootStep (i : grid0.Coords) (t : Fin k0_t1_loop.trips) : PTy F i PUnit :=
  .op (.load rootB (Rect.unit (s := S32768) (k0_off4 t) S16.size (k0_off4_inb t)).toLoadRect (View.loadsAt_vmem h_S16)) fun x =>
  .op (.load rootB (Rect.unit (s := S32768) (k0_off4 t) S16.size (k0_off4_inb t)).toLoadRect (View.loadsAt_vmem h_S16)) fun _ =>
  .op (.store rootB (Rect.unit (s := S32768) (k0_off4 t) S16.size (k0_off4_inb t))
    (shapeCast S16 (sqrt (shapeCast S16 x shapeCasts_S16_S16)) shapeCasts_S16_S16) Finset.univ (View.stores_vmem_bits_univ h_S16 rfl) (.inl rfl)) fun _ =>
  .ret ⟨⟩

theorem start_eq (i : grid0.Coords) : startAt (F := F) i =
    copyK (histS i) histB cc0_scoped0.sem (View.wordExact_bits rfl) (Memref.isWhole_whole _).wordExact ⟨Or.inl rfl, trivial⟩ (
    copyK (distS i) rootB cc0_scoped1.sem (View.wordExact_bits rfl) (Memref.isWhole_whole _).wordExact ⟨Or.inl rfl, trivial⟩ (
    copyK (itemS i) itemB cc0_scoped2.sem (View.wordExact_bits rfl) (Memref.isWhole_whole _).wordExact ⟨Or.inl rfl, trivial⟩ (
    Scf.Loop.for k0_t1_loop k0_t1_ok (⟨⟩ : PUnit) (fun t _ => rootStep i t) >>= fun _ =>
    SparseCore.enqueueIndirectGather rfl tabV nbrA gathers_S1000000x128_S100x128 (listAt ![0, 0] inb_S256x100_S1x100_0_0) rfl cc0_scratch7.sem
      (View.wordExact_bits rfl) rfl (Or.inl rfl) >>= fun _ =>
    SparseCore.enqueueIndirectGather rfl tabV nbrB gathers_S1000000x128_S100x128 (listAt ![1, 0] inb_S256x100_S1x100_1_0) rfl cc0_scratch8.sem
      (View.wordExact_bits rfl) rfl (Or.inl rfl) >>= fun _ => .ret ⟨⟩))) := rfl

theorem copyOut_eq (i : grid0.Coords) : copyOut (F := F) i =
    copyK resB (outS i) cc0_scoped3.sem (Memref.isWhole_whole _).wordExact (View.wordExact_bits rfl) ⟨Or.inl rfl, trivial⟩ (.ret ⟨⟩) := rfl

variable {O : CellTallies nD τ sig (HIx 1)} {W : Waits sig (HIx 1)}

/-- A copy and its wait: the destination holds what the source reads. -/
theorem copy_wp {α : Type} {sp sp' : Space} {s : Shape} {e : EltTy} {src : Memref sig .scVector sp s e} {dst : Memref sig .scVector sp' s e} {sem : DmaSem sig}
    {hsrc : src.view.WordExact} {hdst : dst.view.WordExact}
    {hsem : DmaTarget.Typed (nD := nD) (τ := τ) (p := .scVector ((i 0).castLE hcore0) ((i 1).castLE hsub0)) sp (.dma sem) (.here dst)}
    {k : PTy F i α} {Q : α → sProp 𝕄} {q : PosShare TreeShare} {fs : Buf (Elt F) (src.view.loc (thr d i))}
    {Sd : Finset (Idx (dst.view.loc (thr d i)))} {fd : Buf (Elt F) (dst.view.loc (thr d i))} (hN : 0 < dst.view.dmaCredit) (hSd : dst.view.set ⊆ Sd) :
    iprop(Transfers.MayWaits (thr d i) none O ∗ (src.view.loc (thr d i) ↦{q} fs) ∗ (dst.view.loc (thr d i) ↦[Sd]{fullShare} fd)
        ∗ semVal (thr d i, SemLoc.dma sem) 0 ∗ Owes d i O W)
      ⊢ iprop((iprop((src.view.loc (thr d i) ↦{q} fs) ∗ (dst.view.loc (thr d i) ↦[Sd]{fullShare} dst.view.write (Elt F) fd (src.view.read (Elt F) fs) Finset.univ)
          ∗ semVal (thr d i, SemLoc.dma sem) 0 ∗ Owes d i O W) -∗ wp frame (wpE defs₀ 𝒱₀ (thr d i) none) Set.univ k Q)
        -∗ wp frame (wpE defs₀ 𝒱₀ (thr d i) none) Set.univ (copyK src dst sem hsrc hdst hsem k) Q) := by
  unfold copyK
  iintro ⟨#Hm, Hs, Hd, Hv, HO⟩ Hk
  iapply (Transfers.wp_dmaFromWhole countersEmb 𝒱₀ (thr d i) none (none : HIx 1) dst.view.dmaCredit rfl hN hSd) $$ [Hs Hd Hv]
  · isplitl [Hs]; · iexact Hs
    isplitl [Hd] <;> iassumption
  iintro Hf
  iapply (wait_wp rfl) $$ [Hf HO]
  · isplitr; · iexact Hm
    isplitl [Hf] <;> iassumption
  iintro ⟨⟨Hd, Hs⟩, Hv, HO⟩
  iapply Hk
  isplitl [Hs]; · iexact Hs
  isplitl [Hd]; · iexact Hd
  isplitl [Hv] <;> iassumption

/-! ## The roots -/

/-- The first `n` distances replaced by their roots. -/
def rooted (Dl : S32768.Idx → F .f32) (n : ℕ) : S32768.Idx → F .f32 := fun y => if (y 0).val < n then FloatOps.sqrt (Dl y) else Dl y

theorem rootStep_wp (Dl : S32768.Idx → F .f32) (t : Fin k0_t1_loop.trips) :
    (rootB.view.loc (thr d i) ↦{fullShare} rooted Dl (16 * t.val) : sProp 𝕄)
      ⊢ wp frame (wpE defs₀ 𝒱₀ (thr d i) none) Set.univ (rootStep i t) fun _ => (rootB.view.loc (thr d i) ↦{fullShare} rooted Dl (16 * (t.val + 1))) := by
  have ht : t.val < 2048 := trips1 ▸ t.isLt
  unfold rootStep
  iintro H
  iapply (wp_load 𝒱₀ (thr d i) none Set.univ (m := rootB) (Finset.subset_univ _)) $$ H
  iintro H
  iapply (wp_load 𝒱₀ (thr d i) none Set.univ (m := rootB) (Finset.subset_univ _)) $$ H
  iintro H
  iapply (wp_store 𝒱₀ (thr d i) none Set.univ (m := rootB) (r := Rect.unit (s := S32768) (k0_off4 t) S16.size (k0_off4_inb t))
    (f := rooted Dl (16 * t.val)) (Finset.subset_univ _)) $$ H
  iintro H
  rw [wp_ret]
  imodintro
  have hst : (rootB.access (Rect.unit (s := S32768) (k0_off4 t) S16.size (k0_off4_inb t))).write (Elt F) (rooted Dl (16 * t.val))
      (shapeCast S16 (sqrt (shapeCast S16 (rootB.view.readAt (Elt F) (Rect.unit (s := S32768) (k0_off4 t) S16.size (k0_off4_inb t)).toLoadRect
        (rooted Dl (16 * t.val))) shapeCasts_S16_S16)) shapeCasts_S16_S16) Finset.univ = rooted Dl (16 * (t.val + 1)) := by
    refine (write1 (Val := Elt F) rootB.view (rooted Dl (16 * t.val)) _ (k0_off4_inb t) (16 * t.val) (k0_off4_eq t) _).trans (funext fun y => ?_)
    unfold put1
    split
    · rename_i hy
      refine (cast_same _ _).trans ?_
      have hr : rooted Dl (16 * (t.val + 1)) y = FloatOps.sqrt (Dl y) := if_pos (by omega)
      rw [hr]
      refine congrArg FloatOps.sqrt ((cast_same _ _).trans ((readAt1 (Val := Elt F) rootB.view (rooted Dl (16 * t.val)) _ (k0_off4_inb t) _ (k0_off4_eq t)
        _ (y 0) (by show (y 0).val = 16 * t.val + ((y 0).val - 16 * t.val); omega)).trans ?_))
      have hy' : (ix1 (y 0) : S32768.Idx) = y := funext fun a => match a with | 0 => rfl
      show rooted Dl (16 * t.val) (ix1 (y 0)) = _
      rw [hy']
      exact if_neg (by omega)
    · rename_i hy
      show rooted Dl (16 * t.val) y = _
      unfold rooted
      have : ((y 0).val < 16 * t.val) ↔ ((y 0).val < 16 * (t.val + 1)) := by omega
      simp only [this]
  rw [← hst]
  iexact H

/-! ## The result -/

/-- The kernel's result at element `y` of the whole array. -/
def OutV (H : S8192x100.Idx → BitVec 32) (Ds : S1048576.Idx → F .f32) (Hj : S16384x32.Idx → F .f32) (Tb : S1000000x128.Idx → F .f32) :
    S16384x16.Idx → F .f32 := fun y =>
  rowOut (fun e c => Tb (ix2 (Fin.ofNat 1000000 (H (ix2 (Fin.ofNat 8192 ((y 0).val / 2)) (Fin.ofNat 100 (50 * ((y 0).val % 2) + e)))).toNat) (Fin.ofNat 128 c)))
    (fun e => Hj (ix2 (y 0) (Fin.ofNat 32 e))) (fun x => FloatOps.sqrt (Ds (ix1 (Fin.ofNat 1048576 (64 * (y 0).val + x))))) (y 1).val

/-- A row's result looks at 50 roots only. -/
theorem rowOut_congr {nb : ℕ → ℕ → F .f32} {it rt rt' : ℕ → F .f32} (l : ℕ) (h : ∀ x < 50, rt x = rt' x) : rowOut nb it rt l = rowOut nb it rt' l := by
  have : prodAt it rt = prodAt it rt' := funext fun k => by unfold prodAt; rw [h _ (Nat.mod_lt _ (by decide))]
  unfold rowOut
  rw [this]

variable {H : S8192x100.Idx → BitVec 32} {Ds : S1048576.Idx → F .f32} {Hj : S16384x32.Idx → F .f32} {Tb : S1000000x128.Idx → F .f32}

theorem out_loc (y : S512x16.Idx) :
    locRow ((histS i).view.read (Elt F) H) Tb ((itemS i).view.read (Elt F) Hj) (rooted ((distS i).view.read (Elt F) Ds) 32768) (y 0).val (y 1).val
      = OutV H Ds Hj Tb ((outS i).view.emb y) := by
  have hc : (i 0).val < 2 := (i 0).isLt
  have hs : (i 1).val < 16 := (i 1).isLt
  have hy : (y 0).val < 512 := (y 0).isLt
  have e0 : (((outS i).view.emb y) 0).val = 8192 * (i 0).val + 512 * (i 1).val + (y 0).val := by
    show (k0_off33 i) 0 + 1 * (y 0).val = _
    rw [k0_off33_eq]
    show 8192 * (i 0).val + 512 * (i 1).val + 1 * (y 0).val = _
    omega
  have e1 : (((outS i).view.emb y) 1).val = (y 1).val := by
    show (k0_off33 i) 1 + 1 * (y 1).val = _
    rw [k0_off33_eq]
    show 0 + 1 * (y 1).val = _
    omega
  have hH (a : Fin 256) (c : Fin 100) (b : Fin 8192) (hb : b.val = 4096 * (i 0).val + 256 * (i 1).val + a.val) :
      (histS i).view.read (Elt F) H (ix2 a c) = H (ix2 b c) := by
    refine congrArg H (Shape.idx_ext₂ ?_ ?_)
    · show (k0_off1 i) 0 + 1 * a.val = b.val
      rw [k0_off1_eq]
      show 4096 * (i 0).val + 256 * (i 1).val + 1 * a.val = b.val
      omega
    · show (k0_off1 i) 1 + 1 * c.val = c.val
      rw [k0_off1_eq]
      show 0 + 1 * c.val = c.val
      omega
  have hJ (a : Fin 512) (c : Fin 32) (b : Fin 16384) (hb : b.val = 8192 * (i 0).val + 512 * (i 1).val + a.val) :
      (itemS i).view.read (Elt F) Hj (ix2 a c) = Hj (ix2 b c) := by
    refine congrArg Hj (Shape.idx_ext₂ ?_ ?_)
    · show (k0_off3 i) 0 + 1 * a.val = b.val
      rw [k0_off3_eq]
      show 8192 * (i 0).val + 512 * (i 1).val + 1 * a.val = b.val
      omega
    · show (k0_off3 i) 1 + 1 * c.val = c.val
      rw [k0_off3_eq]
      show 0 + 1 * c.val = c.val
      omega
  have hD (a : Fin 32768) (b : Fin 1048576) (hb : b.val = 524288 * (i 0).val + 32768 * (i 1).val + a.val) :
      (distS i).view.read (Elt F) Ds (ix1 a) = Ds (ix1 b) := by
    refine congrArg Ds (funext fun z => Fin.ext (match z with | 0 => ?_))
    show (k0_off2 i) 0 + 1 * a.val = b.val
    rw [k0_off2_eq]
    show 524288 * (i 0).val + 32768 * (i 1).val + 1 * a.val = b.val
    omega
  unfold locRow OutV
  rw [e1]
  generalize hb : ((outS i).view.emb y) 0 = b at e0
  have hb' : b.val = 8192 * (i 0).val + 512 * (i 1).val + (y 0).val := e0
  refine (rowOut_congr _ (rt' := fun x => FloatOps.sqrt (Ds (ix1 (Fin.ofNat 1048576 (64 * b.val + x))))) (fun x hx => ?_)).trans ?_
  · refine (if_pos (Fin.isLt _)).trans (congrArg FloatOps.sqrt (hD _ _ ?_))
    show (64 * b.val + x) % 1048576 = _ + (64 * (y 0).val + x) % 32768
    omega
  · refine congrFun (congrArg₂ (fun u v => rowOut (F := F) u v _) (funext fun e => funext fun c => ?_) (funext fun e => ?_)) _
    · refine congrArg (fun z : BitVec 32 => Tb (ix2 (Fin.ofNat 1000000 z.toNat) (Fin.ofNat 128 c))) ?_
      have hq : b.val % 2 = (y 0).val % 2 := by omega
      show _ = H (ix2 (Fin.ofNat 8192 (b.val / 2)) (Fin.ofNat 100 (50 * (b.val % 2) + e)))
      rw [hq]
      refine hH _ _ _ ?_
      show b.val / 2 % 8192 = _ + (y 0).val / 2 % 256
      omega
    · refine hJ _ _ _ ?_
      show b.val = _ + (y 0).val % 512
      omega

/-! ## The whole run -/

/-- The tile's own buffers, at whatever they hold. -/
def Bufs (d : Dev nD) (i : grid0.Coords) : sProp 𝕄 :=
  iprop((∃ f : S256x100.Idx → BitVec 32, histB.view.loc (thr d i) ↦{fullShare} f) ∗ (∃ f : S32768.Idx → F .f32, rootB.view.loc (thr d i) ↦{fullShare} f)
    ∗ (∃ f : S512x32.Idx → F .f32, itemB.view.loc (thr d i) ↦{fullShare} f) ∗ (∃ f : S100x128.Idx → F .f32, nbrA.view.loc (thr d i) ↦{fullShare} f)
    ∗ (∃ f : S100x128.Idx → F .f32, nbrB.view.loc (thr d i) ↦{fullShare} f) ∗ (∃ f : S1664.Idx → F .f32, prodB.view.loc (thr d i) ↦{fullShare} f)
    ∗ (∃ f : S512x16.Idx → F .f32, resB.view.loc (thr d i) ↦{fullShare} f))

/-- The tile's own semaphores, at zero. -/
def Sems (d : Dev nD) (i : grid0.Coords) : sProp 𝕄 :=
  iprop(semVal (thr d i, SemLoc.dma cc0_scratch7.sem) 0 ∗ semVal (thr d i, SemLoc.dma cc0_scratch8.sem) 0 ∗ semVal (thr d i, SemLoc.dma cc0_scoped0.sem) 0
    ∗ semVal (thr d i, SemLoc.dma cc0_scoped1.sem) 0 ∗ semVal (thr d i, SemLoc.dma cc0_scoped2.sem) 0 ∗ semVal (thr d i, SemLoc.dma cc0_scoped3.sem) 0)

/-- The tile's shares of the arrays it reads. -/
def Reads (d : Dev nD) (i : grid0.Coords) (q : PosShare TreeShare) (H : S8192x100.Idx → BitVec 32) (Ds : S1048576.Idx → F .f32)
    (Hj : S16384x32.Idx → F .f32) (Tb : S1000000x128.Idx → F .f32) : sProp 𝕄 :=
  iprop((hist2M.view.loc (thr d i) ↦{q} H) ∗ (distM.view.loc (thr d i) ↦{q} Ds) ∗ (hjM.view.loc (thr d i) ↦{q} Hj) ∗ (tabM.view.loc (thr d i) ↦{q} Tb))

theorem got_of {g : Memref sig .scVector .vmem S100x128 .f32} {Hl : S256x100.Idx → BitVec 32} {tq hq : PosShare TreeShare} {row : ℕ} (hrow : ¬ row < 256)
    (fg : Buf (Elt F) (g.view.loc (thr d i))) :
    iprop((g.view.loc (thr d i) ↦{fullShare} fg) ∗ (tabV.view.loc (thr d i) ↦{tq} Tb) ∗ (histB.view.loc (thr d i) ↦{hq} Hl) : sProp 𝕄)
      ⊢ Got d i g Hl Tb tq hq row := by
  unfold Got
  iintro ⟨Hg, Ht, Hh⟩
  iexists fg
  isplitl [Hg]; · iexact Hg
  isplitr
  · ipureintro; exact fun h => absurd h hrow
  isplitl [Ht] <;> iassumption

/-- The tile's share of the history, its item rows and the roots of its distances. -/
abbrev hl (i : grid0.Coords) (H : S8192x100.Idx → BitVec 32) : S256x100.Idx → BitVec 32 := (histS i).view.read (Elt F) H
abbrev fiOf (i : grid0.Coords) (Hj : S16384x32.Idx → F .f32) : S512x32.Idx → F .f32 := (itemS i).view.read (Elt F) Hj
abbrev frOf (i : grid0.Coords) (Ds : S1048576.Idx → F .f32) : S32768.Idx → F .f32 := rooted ((distS i).view.read (Elt F) Ds) 32768

theorem rooted_all (Dl : S32768.Idx → F .f32) :
    (rootB.view.loc (thr d i) ↦{fullShare} rooted Dl (16 * Scf.trips k0_t1_loop.lb k0_t1_loop.ub k0_t1_loop.st) : sProp 𝕄)
      ⊢ rootB.view.loc (thr d i) ↦{fullShare} rooted Dl 32768 := by
  rw [show Scf.trips k0_t1_loop.lb k0_t1_loop.ub k0_t1_loop.st = 2048 from trips1]

theorem inv_end {Hl : S256x100.Idx → BitVec 32} {fi : S512x32.Idx → F .f32} {fr : S32768.Idx → F .f32} {tA hA tB hB : PosShare TreeShare} :
    (Inv d i Hl Tb fi fr tA hA tB hB O W (Scf.trips k0_t2_loop.lb k0_t2_loop.ub k0_t2_loop.st) : sProp 𝕄) ⊢ Inv d i Hl Tb fi fr tA hA tB hB O W 128 := by
  rw [show Scf.trips k0_t2_loop.lb k0_t2_loop.ub k0_t2_loop.st = 128 from trips2]

/-- The result rows written out are the kernel's result on the tile's block. -/
theorem out_pts (f0 : S16384x16.Idx → F .f32) {fo : S512x16.Idx → F .f32} (hfo : Done (hl (F := F) i H) Tb (fiOf i Hj) (frOf i Ds) (4 * 128) fo) :
    ((outS i).view.loc (thr d i) ↦[(outS i).view.set]{fullShare} (outS i).view.write (Elt F) f0 (resB.view.read (Elt F) fo) Finset.univ : sProp 𝕄)
      ⊢ outM.view.loc (thr d i) ↦[(outS i).view.set]{fullShare} OutV H Ds Hj Tb := by
  have key : ∀ x ∈ (outS i).view.set, (outS i).view.write (Elt F) f0 (resB.view.read (Elt F) fo) Finset.univ x = OutV H Ds Hj Tb x := fun x hx => by
    obtain ⟨y, -, rfl⟩ := Finset.mem_map.mp hx
    have hw : (outS i).view.read (Elt F) ((outS i).view.write (Elt F) f0 (resB.view.read (Elt F) fo) Finset.univ) y = fo y :=
      congrFun (View.read_write_univ (v := (outS i).view) f0 (resB.view.read (Elt F) fo)) y
    have hd : fo y = OutV H Ds Hj Tb ((outS i).view.emb y) := (hfo y (by have : (y 0).val < 512 := (y 0).isLt; omega)).trans (out_loc y)
    exact Eq.trans hw hd
  have := pointsTo_congr (ℓ := (outS i).view.loc (thr d i)) (I := (outS i).view.set) (q := fullShare) (Ix := HIx 1) (Name := ℕ) (U := UU) (Lvl := ℕ) key
  exact Entails.of_eq this

theorem outS_credit (i : grid0.Coords) : 0 < (outS i).view.dmaCredit := by
  show 0 < S512x16.numel * 32
  decide +kernel

set_option maxHeartbeats 1000000 in
/-- The copies in and the roots. -/
theorem copies_wp {k : PTy F i PUnit} {Q : PUnit → sProp 𝕄} {q : PosShare TreeShare} {b0 : S256x100.Idx → BitVec 32} {b1 : S32768.Idx → F .f32} {b2 : S512x32.Idx → F .f32} :
    iprop(Transfers.MayWaits (thr d i) none O ∗ ((hist2M.view.loc (thr d i) ↦{q} H) ∗ (distM.view.loc (thr d i) ↦{q} Ds) ∗ (hjM.view.loc (thr d i) ↦{q} Hj))
        ∗ ((histB.view.loc (thr d i) ↦{fullShare} b0) ∗ (rootB.view.loc (thr d i) ↦{fullShare} b1) ∗ (itemB.view.loc (thr d i) ↦{fullShare} b2))
        ∗ (semVal (thr d i, SemLoc.dma cc0_scoped0.sem) 0 ∗ semVal (thr d i, SemLoc.dma cc0_scoped1.sem) 0 ∗ semVal (thr d i, SemLoc.dma cc0_scoped2.sem) 0)
        ∗ Owes d i O W : sProp 𝕄)
      ⊢ iprop((iprop(((hist2M.view.loc (thr d i) ↦{q} H) ∗ (distM.view.loc (thr d i) ↦{q} Ds) ∗ (hjM.view.loc (thr d i) ↦{q} Hj))
        ∗ ((histB.view.loc (thr d i) ↦{fullShare} hl (F := F) i H) ∗ (rootB.view.loc (thr d i) ↦{fullShare} frOf i Ds) ∗ (itemB.view.loc (thr d i) ↦{fullShare} fiOf i Hj))
        ∗ (semVal (thr d i, SemLoc.dma cc0_scoped0.sem) 0 ∗ semVal (thr d i, SemLoc.dma cc0_scoped1.sem) 0 ∗ semVal (thr d i, SemLoc.dma cc0_scoped2.sem) 0)
        ∗ Owes d i O W) -∗ wp frame (wpE defs₀ 𝒱₀ (thr d i) none) Set.univ k Q) -∗ wp frame (wpE defs₀ 𝒱₀ (thr d i) none) Set.univ (
    copyK (histS i) histB cc0_scoped0.sem (View.wordExact_bits rfl) (Memref.isWhole_whole _).wordExact ⟨Or.inl rfl, trivial⟩ (
    copyK (distS i) rootB cc0_scoped1.sem (View.wordExact_bits rfl) (Memref.isWhole_whole _).wordExact ⟨Or.inl rfl, trivial⟩ (
    copyK (itemS i) itemB cc0_scoped2.sem (View.wordExact_bits rfl) (Memref.isWhole_whole _).wordExact ⟨Or.inl rfl, trivial⟩ (
    Scf.Loop.for k0_t1_loop k0_t1_ok (⟨⟩ : PUnit) (fun t _ => rootStep i t) >>= fun _ => k)))) Q) := by
  iintro ⟨#Hm, ⟨Hhist, Hdist, Hhj⟩, ⟨B0, B1, B2⟩, ⟨V0, V1, V2⟩, HO⟩ Hk
  iapply (copy_wp (q := q) (fs := H) (fd := b0) (by decide +kernel) (Finset.subset_univ _)) $$ [Hhist B0 V0 HO]
  · isplitr; · iexact Hm
    isplitl [Hhist]; · iexact Hhist
    isplitl [B0]; · iexact B0
    isplitl [V0] <;> iassumption
  iintro ⟨Hhist, B0, V0, HO⟩
  iapply (copy_wp (q := q) (fs := Ds) (fd := b1) (by decide +kernel) (Finset.subset_univ _)) $$ [Hdist B1 V1 HO]
  · isplitr; · iexact Hm
    isplitl [Hdist]; · iexact Hdist
    isplitl [B1]; · iexact B1
    isplitl [V1] <;> iassumption
  iintro ⟨Hdist, B1, V1, HO⟩
  iapply (copy_wp (q := q) (fs := Hj) (fd := b2) (by decide +kernel) (Finset.subset_univ _)) $$ [Hhj B2 V2 HO]
  · isplitr; · iexact Hm
    isplitl [Hhj]; · iexact Hhj
    isplitl [B2]; · iexact B2
    isplitl [V2] <;> iassumption
  iintro ⟨Hhj, B2, V2, HO⟩
  have w0 : histB.view.write (Elt F) b0 ((histS i).view.read (Elt F) H) Finset.univ = (histS i).view.read (Elt F) H := View.write_whole_univ _ _ _
  have w1 : rootB.view.write (Elt F) b1 ((distS i).view.read (Elt F) Ds) Finset.univ = rooted ((distS i).view.read (Elt F) Ds) 0 :=
    (View.write_whole_univ _ _ _).trans (funext fun y => (if_neg (Nat.not_lt_zero _)).symm)
  have w2 : itemB.view.write (Elt F) b2 ((itemS i).view.read (Elt F) Hj) Finset.univ = (itemS i).view.read (Elt F) Hj := View.write_whole_univ _ _ _
  rw [w0, w1, w2]
  iapply (Scf.wp_for_bind frame (wpE defs₀ 𝒱₀ (thr d i) none) Set.univ _ _ _ _ _ _
    (fun t _ => (rootB.view.loc (thr d i) ↦{fullShare} rooted ((distS i).view.read (Elt F) Ds) (16 * t) : sProp 𝕄))
    (fun t _ => rootStep_wp _ t)) $$ [B1]
  · iexact B1
  iintro %_ B1
  ihave B1 := (rooted_all _) $$ B1
  iapply Hk
  isplitl [Hhist Hdist Hhj]
  · isplitl [Hhist]; · iexact Hhist
    isplitl [Hdist] <;> iassumption
  isplitl [B0 B1 B2]
  · isplitl [B0]; · iexact B0
    isplitl [B1]; · iexact B1
    iexact B2
  isplitr [HO]
  · isplitl [V0]; · iexact V0
    isplitl [V1] <;> iassumption
  · iexact HO

set_option maxHeartbeats 2000000 in
set_option maxRecDepth 20000 in
theorem body_wp (hH : ∀ x, (H x).toNat < 1000000) (q : PosShare TreeShare) (f0 : S16384x16.Idx → F .f32) :
    iprop(Transfers.MayWaits (thr d i) none O ∗ Reads d i q H Ds Hj Tb ∗ (outM.view.loc (thr d i) ↦[(outS i).view.set]{fullShare} f0)
        ∗ Bufs d i ∗ Sems d i ∗ Owes d i O W : sProp 𝕄)
      ⊢ wp frame (wpE defs₀ 𝒱₀ (thr d i) none) Set.univ (bodyAt i) fun _ => iprop(Reads d i q H Ds Hj Tb ∗ (outM.view.loc (thr d i) ↦[(outS i).view.set]{fullShare} OutV H Ds Hj Tb)
        ∗ Bufs d i ∗ Sems d i ∗ Owes d i O W) := by
  have hHl : ∀ x, (hl (F := F) i H x).toNat < 1000000 := fun x => hH _
  rw [body_eq, start_eq, copyOut_eq]
  unfold Reads Bufs Sems
  iintro ⟨#Hm, ⟨Hhist, Hdist, Hhj, Htab⟩, Hout, ⟨⟨%b0, B0⟩, ⟨%b1, B1⟩, ⟨%b2, B2⟩, ⟨%b3, B3⟩, ⟨%b4, B4⟩, ⟨%b5, B5⟩, %b6, B6⟩, ⟨V7, V8, V0, V1, V2, V3⟩, HO⟩
  rw [wp_bind]
  iapply (copies_wp (q := q) (H := H) (Ds := Ds) (Hj := Hj) (b0 := b0) (b1 := b1) (b2 := b2)) $$ [Hhist Hdist Hhj B0 B1 B2 V0 V1 V2 HO]
  · isplitr; · iexact Hm
    isplitl [Hhist Hdist Hhj]
    · isplitl [Hhist]; · iexact Hhist
      isplitl [Hdist] <;> iassumption
    isplitl [B0 B1 B2]
    · isplitl [B0]; · iexact B0
      isplitl [B1] <;> iassumption
    isplitr [HO]
    · isplitl [V0]; · iexact V0
      isplitl [V1] <;> iassumption
    · iexact HO
  iintro ⟨⟨Hhist, Hdist, Hhj⟩, ⟨B0, B1, B2⟩, ⟨V0, V1, V2⟩, HO⟩
  ihave ⟨T1, T2⟩ := (pointsTo_share (PosShare.mem_left_op_right q)).1 $$ Htab
  ihave ⟨C1, C2⟩ := (pointsTo_share (PosShare.mem_left_op_right fullShare)).1 $$ B0
  iapply (slot_start (row := 0) hHl (by decide) rfl) $$ [B3 T1 C1 V7]
  · isplitr [V7]
    · iapply (got_of (row := 256) (by decide) b3) $$ [B3 T1 C1]
      isplitl [B3]; · iexact B3
      isplitl [T1] <;> iassumption
    · iexact V7
  iintro SA
  iapply (slot_start (row := 1) hHl (by decide) rfl) $$ [B4 T2 C2 V8]
  · isplitr [V8]
    · iapply (got_of (row := 257) (by decide) b4) $$ [B4 T2 C2]
      isplitl [B4]; · iexact B4
      isplitl [T2] <;> iassumption
    · iexact V8
  iintro SB
  rw [wp_ret]
  imodintro
  iapply (Scf.wp_for_bind frame (wpE defs₀ 𝒱₀ (thr d i) none) Set.univ _ _ _ _ _ _
    (fun t _ => Inv d i (hl (F := F) i H) Tb (fiOf i Hj) (frOf i Ds)
      q.left fullShare.left q.right fullShare.right O W t)
    (fun t _ => trip_wp hHl t)) $$ [SA SB B1 B2 B5 B6 HO]
  · unfold Inv Res Work Prods
    isplitr; · iexact Hm
    isplitl [SA]; · iexact SA
    isplitl [SB]; · iexact SB
    isplitl [B6]
    · iexists b6
      isplitl [B6]; · iexact B6
      ipureintro; exact fun _ h => absurd h (Nat.not_lt_zero _)
    isplitr [HO]
    · isplitl [B5]
      · iexists b5
        isplitl [B5]; · iexact B5
        ipureintro; exact fun _ h => absurd h (Nat.not_lt_zero _)
      isplitl [B2]; · iexact B2
      iexact B1
    · iexact HO
  iintro %_ HI
  ihave HI := (inv_end) $$ HI
  unfold Inv Slot
  rw [if_neg (by decide), if_neg (by decide)]
  unfold Got Res Work Prods
  icases HI with ⟨-, ⟨⟨%gA, B3, -, T1, C1⟩, V7⟩, ⟨⟨%gB, B4, -, T2, C2⟩, V8⟩, ⟨%fo, B6, %hfo⟩, ⟨⟨%fp, B5, -⟩, B2, B1⟩, HO⟩
  ihave Htab := (pointsTo_share (PosShare.mem_left_op_right q)).2 $$ [T1 T2]
  · isplitl [T1] <;> iassumption
  ihave B0 := (pointsTo_share (PosShare.mem_left_op_right fullShare)).2 $$ [C1 C2]
  · isplitl [C1] <;> iassumption
  iapply (copy_wp (q := fullShare) (fs := fo) (fd := f0) (outS_credit i) (Finset.Subset.refl _)) $$ [Hout B6 V3 HO]
  · isplitr; · iexact Hm
    isplitl [B6]; · iexact B6
    isplitl [Hout]; · iexact Hout
    isplitl [V3] <;> iassumption
  iintro ⟨B6, Hout, V3, HO⟩
  rw [wp_ret]
  imodintro
  isplitl [Hhist Hdist Hhj Htab]
  · isplitl [Hhist]; · iexact Hhist
    isplitl [Hdist]; · iexact Hdist
    isplitl [Hhj] <;> iassumption
  isplitl [Hout]
  · iapply (out_pts f0 hfo) $$ Hout
  isplitl [B0 B1 B2 B3 B4 B5 B6]
  · isplitl [B0]; · iexists _; iexact B0
    isplitl [B1]; · iexists _; iexact B1
    isplitl [B2]; · iexists _; iexact B2
    isplitl [B3]; · iexists gA; iexact B3
    isplitl [B4]; · iexists gB; iexact B4
    isplitl [B5]; · iexists _; iexact B5
    iexists _; iexact B6
  isplitr [HO]
  · isplitl [V7]; · iexact V7
    isplitl [V8]; · iexact V8
    isplitl [V0]; · iexact V0
    isplitl [V1]; · iexact V1
    isplitl [V2] <;> iassumption
  · iexact HO

end Cert.Proof.Sc

end
-- ==== Proof.Launch.lean ====
/-
  The SparseCore call: how the arrays are dealt to its 32 tiles, and what each tile is given and gives back.
-/
module

public import proofs.«01_k».proof.Proof.Tile
public import Idealize.ShloMosaic.Lib.ShareLeaves

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable {d : Dev nD}

/-- The coordinates of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The arrays the SparseCore call reads, and its result array before it. -/
structure Args (F : FTy → Type) where
  H : S8192x100.Idx → BitVec 32
  Ds : S1048576.Idx → F .f32
  Hj : S16384x32.Idx → F .f32
  Tb : S1000000x128.Idx → F .f32
  O0 : S16384x16.Idx → F .f32

/-- The result array after the call. -/
def Args.out (A : Args F) : S16384x16.Idx → F .f32 := OutV A.H A.Ds A.Hj A.Tb

abbrev hLoc (d : Dev nD) : Loc nD τ sig := (SparseCore.T d : Thread nD τ).loc (main_v0 : Ref sig .tc)
abbrev dLoc (d : Dev nD) : Loc nD τ sig := (SparseCore.T d : Thread nD τ).loc (main_v2 : Ref sig .tc)
abbrev jLoc (d : Dev nD) : Loc nD τ sig := (SparseCore.T d : Thread nD τ).loc (main_v3 : Ref sig .tc)
abbrev tLoc (d : Dev nD) : Loc nD τ sig := (SparseCore.T d : Thread nD τ).loc (main_v6 : Ref sig .tc)
abbrev oLoc (d : Dev nD) : Loc nD τ sig := (SparseCore.T d : Thread nD τ).loc (main_v7 : Ref sig .tc)

/-- A tile's share of each array that is read: one of 32 equal parts. -/
def qOf (c : Fin 2) (s : Fin 16) : PosShare TreeShare := ShareLeaves.leaf 4 (ShareLeaves.leaf 1 fullShare c) s

/-- A tile's part of a split of the arrays: shares of what is read and its block of the result. -/
def Part (d : Dev nD) (A : Args F) (o : S16384x16.Idx → F .f32) (c : Fin 2) (s : Fin 16) : sProp 𝕄 :=
  iprop(Reads d (coordsV c s) (qOf c s) A.H A.Ds A.Hj A.Tb
    ∗ (outM.view.loc (thr d (coordsV c s)) ↦[(outS (coordsV c s)).view.set]{fullShare} o))

/-- The whole arrays. -/
def Whole (d : Dev nD) (A : Args F) (o : S16384x16.Idx → F .f32) : sProp 𝕄 :=
  iprop(((hLoc d ↦{fullShare} A.H) ∗ (dLoc d ↦{fullShare} A.Ds) ∗ (jLoc d ↦{fullShare} A.Hj) ∗ (tLoc d ↦{fullShare} A.Tb)) ∗ (oLoc d ↦{fullShare} o))

instance storable_reads (d : Dev nD) (i : grid0.Coords) (q : PosShare TreeShare) (H : S8192x100.Idx → BitVec 32) (Ds : S1048576.Idx → F .f32)
    (Hj : S16384x32.Idx → F .f32) (Tb : S1000000x128.Idx → F .f32) : BI.Storable (upEmb : UEmb _ 𝕄) (Reads d i q H Ds Hj Tb) := by
  unfold Reads; infer_instance

instance storable_part (d : Dev nD) (A : Args F) (o : S16384x16.Idx → F .f32) (c : Fin 2) (s : Fin 16) :
    BI.Storable (upEmb : UEmb _ 𝕄) (Part d A o c s) := by
  unfold Part; infer_instance

/-- What the call's signals carry: parts of the arrays out, with the result at the kernel's value back. -/
def P (A : Dev nD → Args F) : (K (F := F)).Pay (nD := nD) (Val := Elt F) (Name := ℕ) (U := UU) where
  st := fun q d c => match q with | 0 => bigSep Finset.univ fun s : Fin 16 => Part d (A d) (A d).O0 c s
  dn := fun q d c => match q with | 0 => bigSep Finset.univ fun s : Fin 16 => Part d (A d) (A d).out c s
  go := fun q d c s => match q with | 0 => Part d (A d) (A d).O0 c s
  td := fun q d c s => match q with | 0 => Part d (A d) (A d).out c s
  x := fun _ _ => iprop(emp)

instance P_storable (A : Dev nD → Args F) : (P A).IsStorable where
  st q d c := match q with
    | 0 => (inferInstance : BI.Storable (upEmb : UEmb _ 𝕄) (bigSep Finset.univ fun s : Fin 16 => Part d (A d) (A d).O0 c s))
  dn q d c := match q with
    | 0 => (inferInstance : BI.Storable (upEmb : UEmb _ 𝕄) (bigSep Finset.univ fun s : Fin 16 => Part d (A d) (A d).out c s))
  go q d c s := match q with | 0 => (inferInstance : BI.Storable (upEmb : UEmb _ 𝕄) (Part d (A d) (A d).O0 c s))
  td q d c s := match q with | 0 => (inferInstance : BI.Storable (upEmb : UEmb _ 𝕄) (Part d (A d) (A d).out c s))

/-! ## A tile's own buffers and semaphores -/

/-- The kernel's scratch buffers. -/
def scratch : Finset (Ref sig .scVector) :=
  {cc0_scratch0, cc0_scratch1, cc0_scratch2, cc0_scratch3, cc0_scratch4, cc0_scratch5, cc0_scratch6}

/-- The kernel's semaphores. -/
def sems : Finset (SemLoc sig) :=
  {SemLoc.dma cc0_scratch7.sem, SemLoc.dma cc0_scratch8.sem, SemLoc.dma cc0_scoped0.sem, SemLoc.dma cc0_scoped1.sem, SemLoc.dma cc0_scoped2.sem,
    SemLoc.dma cc0_scoped3.sem}

/-- A tile's scratch buffers are among its own. -/
theorem bufs_own (i : grid0.Coords) :
    ∃ R : sProp 𝕄, (SparseCore.Cfg.ownBufs (thr d i) : sProp 𝕄) = iprop(Bufs (F := F) d i ∗ R) := by
  let e : Ref sig .scVector ↪ DevRef τ sig := ⟨(thr d i).2.devRef, Proc.devRef_injective _⟩
  have hsub : scratch.map e ⊆ SparseCore.Cfg.ownRefs (thr d i).2 := fun b hb => by
    obtain ⟨r, hr, rfl⟩ := Finset.mem_map.mp hb
    simp only [scratch, Finset.mem_insert, Finset.mem_singleton] at hr
    rcases hr with rfl | rfl | rfl | rfl | rfl | rfl | rfl <;> exact SparseCore.Cfg.mem_ownRefs_of_owner (p := (thr d i).2) rfl
  unfold SparseCore.Cfg.ownBufs
  refine ⟨_, (SparseCore.bigSep_sdiff_split' hsub).trans (congrArg (fun X : sProp 𝕄 => iprop(X ∗ _)) ?_)⟩
  rw [SparseCore.bigSep_map]
  unfold scratch
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A tile's semaphores are among its own. -/
theorem sems_own (i : grid0.Coords) :
    ∃ R : sProp 𝕄, (SparseCore.Cfg.ownSems0 (thr d i) : sProp 𝕄) = iprop(Sems (F := F) d i ∗ R) := by
  let e : SemLoc sig ↪ GSem nD τ sig := ⟨fun s => (thr d i, s), fun a b h => congrArg Prod.snd h⟩
  have hsub : sems.map e ⊆ SparseCore.Cfg.ownCells (thr d i) := fun b hb => by
    obtain ⟨r, hr, rfl⟩ := Finset.mem_map.mp hb
    refine SparseCore.Cfg.mem_ownCells.mpr ⟨rfl, ?_⟩
    show r.isScoped .scVector = true
    simp only [sems, Finset.mem_insert, Finset.mem_singleton] at hr
    rcases hr with rfl | rfl | rfl | rfl | rfl | rfl <;> decide
  unfold SparseCore.Cfg.ownSems0
  refine ⟨_, (SparseCore.bigSep_sdiff_split' hsub).trans (congrArg (fun X : sProp 𝕄 => iprop(X ∗ _)) ?_)⟩
  rw [SparseCore.bigSep_map]
  unfold sems
  rw [SparseCore.bigSep_insert' (by decide), SparseCore.bigSep_insert' (by decide), SparseCore.bigSep_insert' (by decide),
    SparseCore.bigSep_insert' (by decide), SparseCore.bigSep_insert' (by decide), bigSep_singleton]
  rfl

/-! ## The task -/

/-- A task of the call: from its part of the arrays, its part with the result at the kernel's value. -/
theorem task_wp (hF : (K (F := F)).Facts) (A : Args F) (hH : ∀ x, (A.H x).toNat < 1000000) (c : Fin 2) (s : Fin 16)
    (O : CellTallies nD τ sig (HIx 1)) (W : Waits sig (HIx 1)) (hO : ∀ g, O g none = 0) :
    iprop(levAts (K (F := F)).L (K (F := F)).lev ∗ emp ∗ Part d A A.O0 c s ∗ scopedBufs (thr d (coordsV c s))
        ∗ scopedSems0 (thr d (coordsV c s)) ∗ owes (thr d (coordsV c s)) O W : sProp 𝕄)
      ⊢ wp frame (wpE defs₀ 𝒱₀ (thr d (coordsV c s)) none) Set.univ (bodyAt (F := F) (coordsV c s)) fun _ =>
        iprop(Part d A A.out c s ∗ scopedBufs (thr d (coordsV c s)) ∗ scopedSems0 (thr d (coordsV c s))
          ∗ ∃ W', ⌜∀ p ∈ W', p ∈ W ∨ p.2 = none⌝ ∗ owes (thr d (coordsV c s)) O W') := by
  obtain ⟨R1, h1⟩ := bufs_own (F := F) (d := d) (coordsV c s)
  obtain ⟨R2, h2⟩ := sems_own (F := F) (d := d) (coordsV c s)
  rw [(K (F := F)).scopedBufs_V hF d (cV (coordsV c s)) (jV (coordsV c s)), SparseCore.Cfg.scopedSems0_V (Val := Elt F) d (cV (coordsV c s)) (jV (coordsV c s)),
    h1, h2]
  unfold Part
  iintro ⟨#Hl, -, ⟨HR, Ho⟩, ⟨HB, HB'⟩, ⟨HS, HS'⟩, HO⟩
  ihave Hm := (show levAts (K (F := F)).L (K (F := F)).lev ⊢ Transfers.MayWaits (thr d (coordsV c s)) none O from
    (K (F := F)).mayWaits_none (thr := thr d (coordsV c s)) hO) $$ Hl
  iapply (wp_wand frame) $$ [HR Ho HB HS HO Hm]
  · iapply (body_wp (d := d) (i := coordsV c s) (O := O) (W := W) (Ds := A.Ds) (Hj := A.Hj) (Tb := A.Tb) hH (qOf c s) A.O0)
    isplitl [Hm]; · iexact Hm
    isplitl [HR]; · iexact HR
    isplitl [Ho]; · iexact Ho
    isplitl [HB]; · iexact HB
    isplitl [HS]; · iexact HS
    unfold Owes
    iexists W
    isplitr; · ipureintro; exact fun p hp => Or.inl hp
    iexact HO
  iintro %_ ⟨HR, Ho, HB, HS, HO⟩
  unfold Owes
  isplitl [HR Ho]
  · isplitl [HR]; · iexact HR
    iexact Ho
  isplitl [HB HB']; · isplitl [HB] <;> iassumption
  isplitl [HS HS']; · isplitl [HS] <;> iassumption
  iexact HO

theorem defs₀_vector (c : Fin τ.nSC) (s : Fin τ.nSub) :
    defs₀ (F := F) (.scVector c s) 0 () = SparseCore.onTile hcore0 hsub0 (fun c s => bodyAt (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hF : (K (F := F)).Facts) (A : Dev nD → Args F) (hH : ∀ d x, ((A d).H x).toNat < 1000000) :
    (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_wp hF (A d) (hH d) ⟨_, hci.1⟩ ⟨_, hci.2⟩ O W hO).trans (wp_mono frame _ _ fun _ => obl_post)

theorem vecSplit (A : Dev nD → Args F) : (K (F := F)).VecSplit' (P A) 0 := by
  intro d c
  show (bigSep Finset.univ fun s : Fin 16 => Part d (A d) (A d).O0 c s) ⊢ |={Set.univ}=> iprop(
    (bigSep Finset.univ fun s : Fin 16 => Part d (A d) (A d).O0 c s)
      ∗ ((bigSep Finset.univ fun s : Fin 16 => Part d (A d) (A d).out c s) -∗ (bigSep Finset.univ fun s : Fin 16 => Part d (A d) (A d).out c s)))
  iintro H
  imodintro
  isplitl [H]; · iexact H
  iintro H
  iexact H

/-! ## The whole arrays are the 32 parts -/

theorem pts_tiles {ℓ : Loc nD τ sig} (f : Buf (Elt F) ℓ) :
    (ℓ ↦{fullShare} f : sProp 𝕄) = bigSep Finset.univ fun c : Fin 2 => bigSep Finset.univ fun s : Fin 16 => ℓ ↦{qOf c s} f := by
  rw [ShareLeaves.pointsTo_leaves Finset.univ f 1 fullShare]
  refine bigSep_congr fun c _ => ?_
  exact ShareLeaves.pointsTo_leaves Finset.univ f 4 (ShareLeaves.leaf 1 fullShare c)

/-- A tile's block of the result holds the 512 rows of its number. -/
theorem mem_block (c : Fin 2) (s : Fin 16) (x : S16384x16.Idx) :
    x ∈ (outS (coordsV c s)).view.set ↔ (x 0).val / 512 = 16 * c.val + s.val := by
  have e (y : S512x16.Idx) : (((outS (coordsV c s)).view.emb y) 0).val = 8192 * c.val + 512 * s.val + (y 0).val
      ∧ (((outS (coordsV c s)).view.emb y) 1).val = (y 1).val := by
    constructor
    · show (k0_off33 (coordsV c s)) 0 + 1 * (y 0).val = _
      rw [k0_off33_eq]
      show 8192 * c.val + 512 * s.val + 1 * (y 0).val = _
      omega
    · show (k0_off33 (coordsV c s)) 1 + 1 * (y 1).val = _
      rw [k0_off33_eq]
      show 0 + 1 * (y 1).val = _
      omega
  constructor
  · intro hx
    obtain ⟨y, -, rfl⟩ := Finset.mem_map.mp hx
    have hy : (y 0).val < 512 := (y 0).isLt
    have := (e y).1
    show (((outS (coordsV c s)).view.emb y) 0).val / 512 = _
    omega
  · intro hx
    refine Finset.mem_map.mpr ⟨ix2 (⟨(x 0).val % 512, Nat.mod_lt _ (by decide)⟩ : Fin 512) (x 1 : Fin 16), Finset.mem_univ _, Shape.idx_ext₂ ?_ ?_⟩
    · refine (e _).1.trans ?_
      show 8192 * c.val + 512 * s.val + (x 0).val % 512 = (x 0).val
      omega
    · exact (e _).2

theorem out_tiles (o : S16384x16.Idx → F .f32) :
    (oLoc d ↦{fullShare} o : sProp 𝕄) = bigSep Finset.univ fun c : Fin 2 => bigSep Finset.univ fun s : Fin 16 =>
      outM.view.loc (thr d (coordsV c s)) ↦[(outS (coordsV c s)).view.set]{fullShare} o := by
  have hd : ∀ p ∈ (Finset.univ : Finset (Fin 2 × Fin 16)), ∀ r ∈ (Finset.univ : Finset (Fin 2 × Fin 16)), p ≠ r →
      Disjoint (outS (coordsV p.1 p.2)).view.set (outS (coordsV r.1 r.2)).view.set := fun p _ r _ hne =>
    Finset.disjoint_left.mpr fun x hx hy => by
      have h1 := (mem_block p.1 p.2 x).mp hx
      have h2 := (mem_block r.1 r.2 x).mp hy
      have := p.2.isLt
      have := r.2.isLt
      exact hne (Prod.ext (Fin.ext (by omega)) (Fin.ext (by omega)))
  have hu : (Finset.univ : Finset (Fin 2 × Fin 16)).biUnion (fun p => (outS (coordsV p.1 p.2)).view.set) = (Finset.univ : Finset S16384x16.Idx) :=
    Finset.eq_univ_iff_forall.mpr fun x => by
      have hx : (x 0).val < 16384 := (x 0).isLt
      refine Finset.mem_biUnion.mpr ⟨(⟨(x 0).val / 512 / 16, by omega⟩, ⟨(x 0).val / 512 % 16, Nat.mod_lt _ (by decide)⟩), Finset.mem_univ _, ?_⟩
      refine (mem_block _ _ x).mpr ?_
      show (x 0).val / 512 = 16 * ((x 0).val / 512 / 16) + (x 0).val / 512 % 16
      omega
  have h := pointsTo_biUnion (Val := Elt F) (ℓ := oLoc d) (q := fullShare) (f := o) (Ix := HIx 1) (Name := ℕ) (U := UU) (Lvl := ℕ) Finset.univ
    (fun p : Fin 2 × Fin 16 => (outS (coordsV p.1 p.2)).view.set) hd
  refine Eq.trans ?_ (h.trans ?_)
  · exact congrArg (fun I => (oLoc d ↦[I]{fullShare} o : sProp 𝕄)) hu.symm
  · rw [bigSep_univ_prod]

theorem whole_parts (A : Args F) (o : S16384x16.Idx → F .f32) :
    (Whole d A o : sProp 𝕄) = bigSep Finset.univ fun c : Fin 2 => bigSep Finset.univ fun s : Fin 16 => Part d A o c s := by
  unfold Whole
  rw [pts_tiles (ℓ := hLoc d), pts_tiles (ℓ := dLoc d), pts_tiles (ℓ := jLoc d), pts_tiles (ℓ := tLoc d), out_tiles]
  simp only [← bigSep_sep']
  rfl

end Cert.Proof.Sc

end
-- ==== Proof.Host.lean ====
/-
  The host operations before the kernels, as one list, and what they leave in the arrays the kernels read.
-/
module

public import proofs.«01_k».proof.Proof.Launch

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo Idealize.ShloMosaic.TcCoe

/-- The operations of one lookup of table rows. -/
def takeOps (arg0 : TRef sig ⟨S1000000x32, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000000x32_S16384x1_S16384x32_1_0_n_n_0_1_132 x i),
    TRef.unary φ.v12 φ.v14 (broadcastInDim S16384x32 ![0] bcast_S16384_S16384x32_0),
    TRef.nullary φ.cst (constant S_ .f32 0x7FC00000#32),
    TRef.unary φ.cst φ.v15 (broadcastInDim S16384x32 ![] bcast_S_S16384x32),
    TRef.ternary φ.v14 φ.v13 φ.v15 φ.v16 select ]

/-- The operations that widen the distances. -/
def padOps (arg0 : TRef sig ⟨S16384x50, .f32⟩) (arg1 : TRef sig ⟨S_, .i32⟩) (φ : fn_pad.Bufs) : List (HloOp τ sig (Elt F)) :=
  [ TRef.unary arg1 φ.v0 (sitofp .f32),
    TRef.binary arg0 φ.v0 φ.v1 (fun x v => pad S16384x64 ![0, 0] ![0, 14] ![0, 0] x v pads_S16384x50_S16384x64_000_0140 h_S_) ]

/-- The operations that widen the table. -/
def padOps0 (arg0 : TRef sig ⟨S1000000x32, .f32⟩) (arg1 : TRef sig ⟨S_, .i32⟩) (φ : fn_pad_0.Bufs) : List (HloOp τ sig (Elt F)) :=
  [ TRef.unary arg1 φ.v0 (sitofp .f32),
    TRef.binary arg0 φ.v0 φ.v1 (fun x v => pad S1000000x128 ![0, 0] ![0, 96] ![0, 0] x v pads_S1000000x32_S1000000x128_000_0960 h_S_) ]

/-- The operations before the first lookup. -/
def opsA : List (HloOp τ sig (Elt F)) :=
  reshape main_arg2 main_v0 (rfl : (.i32 : EltTy) = .i32) shapeCasts_S16384x50_S8192x100
    :: nullary main_c (constantI S_ 32 0#32)
    :: (padOps (.of main_arg4) (.of main_c) main_call0
      ++ [reshape main_v1 main_v2 (rfl : (.f32 : EltTy) = .f32) shapeCasts_S16384x64_S1048576])

/-- The operations after the last lookup. -/
def opsB : List (HloOp τ sig (Elt F)) := nullary main_c_0 (constantI S_ 32 0#32) :: padOps0 (.of main_arg7) (.of main_c_0) main_call4

def ops1 : List (HloOp τ sig (Elt F)) := takeOps (.of main_arg8) (.of main_arg1) main_call1
def ops2 : List (HloOp τ sig (Elt F)) := takeOps (.of main_arg5) (.of main_arg0) main_call2
def ops3 : List (HloOp τ sig (Elt F)) := takeOps (.of main_arg6) (.of main_arg1) main_call3

/-- All the host operations, in order. -/
def hostOps : List (HloOp τ sig (Elt F)) := opsA ++ (ops1 ++ (ops2 ++ (ops3 ++ opsB)))

set_option maxRecDepth 8192 in
set_option maxHeartbeats 4000000 in
theorem main_eq (d : Dev nD) : main (F := F) d
    = seq hostOps >>= fun _ => ((sc (F := F)).run d 0 >>= fun _ => Prog.lift (.customCall (SparseCore.inner (Pipeline.entry 0)) ()) >>= fun _ => pure ⟨⟩) := rfl

/-! ## The operations stay on the unscoped arrays -/

/-- The TensorCore's unscoped arrays. -/
def ucRefs : Finset (DevRef τ sig) := (tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs held ucRefs tcRefs
  rw [Finset.filter_map, bigSep_map]
  rfl

theorem sub_ucRefs (op : HloOp τ sig (Elt F)) (h : op.bufs ⊆ tcRefs τ sig) : op.bufs ⊆ ucRefs := fun b hb =>
  Finset.mem_filter.mpr ⟨h hb, fun h' => Bool.false_ne_true ((op.no_scoped b hb).symm.trans h')⟩

theorem takeOps_sub (a i φ) : (takeOps a i φ : List (HloOp τ sig (Elt F))).Forall fun op => op.bufs ⊆ tcRefs τ sig := by
  unfold takeOps
  simp [List.Forall, TRef.nullary, TRef.unary, TRef.binary, TRef.ternary]

theorem hostOps_sub : (hostOps : List (HloOp τ sig (Elt F))).Forall fun op => op.bufs ⊆ tcRefs τ sig := by
  simp [hostOps, opsA, opsB, padOps, padOps0, ops1, ops2, ops3, List.forall_append, takeOps_sub, TRef.nullary, TRef.unary, TRef.binary, TRef.ternary]

theorem hostOps_fresh : (hostOps : List (HloOp τ sig (Elt F))).Forall fun op => op.fresh = ∅ := forall_fresh_of_map rfl

/-! ## Values -/

/-- The rows of a table at given indices: an index below zero counts from the end, one out of range gives no number. -/
def takeVal (tb : S1000000x32.Idx → F .f32) (ix : S16384.Idx → BitVec 32) : S16384x32.Idx → F .f32 :=
  let j : (⟨S16384x1, .i32⟩ : BufTy).Contents (Elt F) := broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 1000000#32))) ix)
  select (broadcastInDim S16384x32 ![0] bcast_S16384_S16384x32_0
      (Host.reduce IntOp.andi (andi (cmpi .sge j (broadcastInDim S16384x1 ![] bcast_S_S16384x1 (constantI S_ 32 0#32)))
        (cmpi .sle j (broadcastInDim S16384x1 ![0, 1] bcast_S1x1_S16384x1_0_1 (broadcastInDim S1x1 ![1] bcast_S1_S1x1_1 (constantI S1 32 999999#32)))))
        (constantI S_ 1 1#1) reducesTo_S16384x1_S16384_d1 h_S_))
    (Host.gather gather_S1000000x32_S16384x1_S16384x32_1_0_n_n_0_1_132 tb j)
    (broadcastInDim S16384x32 ![] bcast_S_S16384x32 (constant S_ .f32 0x7FC00000#32))

/-- The distances, fourteen columns of zero added, as a list. -/
def distVal (ds : S16384x50.Idx → F .f32) : S1048576.Idx → F .f32 :=
  shapeCast S1048576 (pad S16384x64 ![0, 0] ![0, 14] ![0, 0] ds (sitofp .f32 (constantI S_ 32 0#32)) pads_S16384x50_S16384x64_000_0140 h_S_) shapeCasts_S16384x64_S1048576

/-- The table, ninety-six columns of zero added. -/
def tabVal (tb : S1000000x32.Idx → F .f32) : S1000000x128.Idx → F .f32 :=
  pad S1000000x128 ![0, 0] ![0, 96] ![0, 0] tb (sitofp .f32 (constantI S_ 32 0#32)) pads_S1000000x32_S1000000x128_000_0960 h_S_

/-- The history, two rows a line. -/
def histVal (h : S16384x50.Idx → BitVec 32) : S8192x100.Idx → BitVec 32 := shapeCast S8192x100 h shapeCasts_S16384x50_S8192x100

/-- The contents before the lookups, and after each. -/
def V1 (V : Valuation τ sig (Elt F)) : Valuation τ sig (Elt F) := after opsA V
def V2 (V : Valuation τ sig (Elt F)) : Valuation τ sig (Elt F) := after ops1 (V1 V)
def V3 (V : Valuation τ sig (Elt F)) : Valuation τ sig (Elt F) := after ops2 (V2 V)
def V4 (V : Valuation τ sig (Elt F)) : Valuation τ sig (Elt F) := after ops3 (V3 V)
/-- The contents before the kernels. -/
def VH (V : Valuation τ sig (Elt F)) : Valuation τ sig (Elt F) := after hostOps V

theorem after_append (l₁ l₂ : List (HloOp τ sig (Elt F))) : ∀ V, after (l₁ ++ l₂) V = after l₂ (after l₁ V) := by
  induction l₁ with
  | nil => exact fun V => rfl
  | cons op l ih => exact fun V => ih _

theorem VH_eq (V : Valuation τ sig (Elt F)) : VH V = after opsB (V4 V) := by
  unfold VH hostOps V4 V3 V2 V1
  rw [after_append, after_append, after_append, after_append]

set_option maxHeartbeats 4000000 in
/-- A lookup's rows end in its result's array. -/
theorem ops1_val (V : Valuation τ sig (Elt F)) : after ops1 V main_v3 = takeVal (V main_arg8) (V main_arg1) := by
  simp only [ops1, takeOps, TRef.binary, TRef.nullary, TRef.ternary, TRef.unary, TRef.toBuf, TRef.ofBuf, cast_eq]
  after_results_simp <;> rfl

set_option maxHeartbeats 4000000 in
theorem ops2_val (V : Valuation τ sig (Elt F)) : after ops2 V main_v4 = takeVal (V main_arg5) (V main_arg0) := by
  simp only [ops2, takeOps, TRef.binary, TRef.nullary, TRef.ternary, TRef.unary, TRef.toBuf, TRef.ofBuf, cast_eq]
  after_results_simp <;> rfl

set_option maxHeartbeats 4000000 in
theorem ops3_val (V : Valuation τ sig (Elt F)) : after ops3 V main_v5 = takeVal (V main_arg6) (V main_arg1) := by
  simp only [ops3, takeOps, TRef.binary, TRef.nullary, TRef.ternary, TRef.unary, TRef.toBuf, TRef.ofBuf, cast_eq]
  after_results_simp <;> rfl

theorem opsA_v0 (V : Valuation τ sig (Elt F)) : after opsA V main_v0 = histVal (V main_arg2) := by
  simp only [opsA, padOps, List.cons_append, List.nil_append, TRef.binary, TRef.unary, TRef.toBuf, TRef.ofBuf, cast_eq]
  after_results_simp <;> rfl

theorem opsA_v2 (V : Valuation τ sig (Elt F)) : after opsA V main_v2 = distVal (V main_arg4) := by
  simp only [opsA, padOps, List.cons_append, List.nil_append, TRef.binary, TRef.unary, TRef.toBuf, TRef.ofBuf, cast_eq]
  after_results_simp <;> rfl

theorem opsB_v6 (V : Valuation τ sig (Elt F)) : after opsB V main_v6 = tabVal (V main_arg7) := by
  simp only [opsB, padOps0, TRef.binary, TRef.unary, TRef.toBuf, TRef.ofBuf, cast_eq]
  after_results_simp <;> rfl

/-! What each group of operations leaves alone. -/

def wA : List (Ref sig .tc) := [main_v0, main_c, main_call0_v0, main_v1, main_v2]
def w1 : List (Ref sig .tc) := [main_call1_c, main_call1_v0, main_call1_v1, main_call1_c_0, main_call1_v2, main_call1_v3, main_call1_v4, main_call1_v5,
  main_call1_c_1, main_call1_c_2, main_call1_v6, main_call1_v7, main_call1_v8, main_call1_v9, main_call1_v10, main_call1_v11, main_call1_c_3,
  main_call1_v12, main_call1_v13, main_call1_v14, main_call1_cst, main_call1_v15, main_v3]
def w2 : List (Ref sig .tc) := [main_call2_c, main_call2_v0, main_call2_v1, main_call2_c_0, main_call2_v2, main_call2_v3, main_call2_v4, main_call2_v5,
  main_call2_c_1, main_call2_c_2, main_call2_v6, main_call2_v7, main_call2_v8, main_call2_v9, main_call2_v10, main_call2_v11, main_call2_c_3,
  main_call2_v12, main_call2_v13, main_call2_v14, main_call2_cst, main_call2_v15, main_v4]
def w3 : List (Ref sig .tc) := [main_call3_c, main_call3_v0, main_call3_v1, main_call3_c_0, main_call3_v2, main_call3_v3, main_call3_v4, main_call3_v5,
  main_call3_c_1, main_call3_c_2, main_call3_v6, main_call3_v7, main_call3_v8, main_call3_v9, main_call3_v10, main_call3_v11, main_call3_c_3,
  main_call3_v12, main_call3_v13, main_call3_v14, main_call3_cst, main_call3_v15, main_v5]
def wB : List (Ref sig .tc) := [main_c_0, main_call4_v0, main_v6]

theorem sub_of_mem {W : List (Ref sig .tc)} {r : Ref sig .tc} (h : r ∈ W) :
    ({Proc.devRef .tc r} : Finset (DevRef τ sig)) ⊆ (W.map (Proc.devRef (τ := τ) .tc)).toFinset :=
  Finset.singleton_subset_iff.mpr (List.mem_toFinset.mpr (List.mem_map_of_mem h))

theorem opsA_writes : (opsA : List (HloOp τ sig (Elt F))).Forall fun op => op.writes ⊆ (wA.map (Proc.devRef (τ := τ) .tc)).toFinset := by
  refine ⟨?_, ?_, ?_, ?_, ?_⟩ <;> exact sub_of_mem (by decide)
theorem opsB_writes : (opsB : List (HloOp τ sig (Elt F))).Forall fun op => op.writes ⊆ (wB.map (Proc.devRef (τ := τ) .tc)).toFinset := by
  refine ⟨?_, ?_, ?_⟩ <;> exact sub_of_mem (by decide)
theorem ops1_writes : (ops1 : List (HloOp τ sig (Elt F))).Forall fun op => op.writes ⊆ (w1.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_⟩ <;> exact sub_of_mem (by decide)
theorem ops2_writes : (ops2 : List (HloOp τ sig (Elt F))).Forall fun op => op.writes ⊆ (w2.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_⟩ <;> exact sub_of_mem (by decide)
theorem ops3_writes : (ops3 : List (HloOp τ sig (Elt F))).Forall fun op => op.writes ⊆ (w3.map (Proc.devRef (τ := τ) .tc)).toFinset := by
  refine ⟨?_, ?_, ?_, ?_, ?_, ?_, ?_, ?_, ?_, ?_, ?_, ?_, ?_, ?_, ?_, ?_, ?_, ?_, ?_, ?_, ?_, ?_, ?_⟩ <;> exact sub_of_mem (by decide)

theorem VH_of_not_mem (V : Valuation τ sig (Elt F)) (r : Ref sig .tc) (hA : r ∉ wA) (h1 : r ∉ w1) (h2 : r ∉ w2) (h3 : r ∉ w3) (hB : r ∉ wB) : VH V r = V r := by
  rw [VH_eq, after_of_writes_sub _ _ opsB_writes hB]
  unfold V4 V3 V2 V1
  rw [after_of_writes_sub _ _ ops3_writes h3, after_of_writes_sub _ _ ops2_writes h2, after_of_writes_sub _ _ ops1_writes h1,
    after_of_writes_sub _ _ opsA_writes hA]

theorem VH_v0 (V : Valuation τ sig (Elt F)) : VH V main_v0 = histVal (V main_arg2) := by
  rw [VH_eq, after_of_writes_sub _ _ opsB_writes (by decide)]
  unfold V4 V3 V2 V1
  rw [after_of_writes_sub _ _ ops3_writes (by decide), after_of_writes_sub _ _ ops2_writes (by decide), after_of_writes_sub _ _ ops1_writes (by decide), opsA_v0]
theorem VH_v2 (V : Valuation τ sig (Elt F)) : VH V main_v2 = distVal (V main_arg4) := by
  rw [VH_eq, after_of_writes_sub _ _ opsB_writes (by decide)]
  unfold V4 V3 V2 V1
  rw [after_of_writes_sub _ _ ops3_writes (by decide), after_of_writes_sub _ _ ops2_writes (by decide), after_of_writes_sub _ _ ops1_writes (by decide), opsA_v2]
theorem VH_v3 (V : Valuation τ sig (Elt F)) : VH V main_v3 = takeVal (V main_arg8) (V main_arg1) := by
  rw [VH_eq, after_of_writes_sub _ _ opsB_writes (by decide)]
  unfold V4 V3 V2 V1
  rw [after_of_writes_sub _ _ ops3_writes (by decide), after_of_writes_sub _ _ ops2_writes (by decide), ops1_val,
    after_of_writes_sub _ _ opsA_writes (by decide), after_of_writes_sub _ _ opsA_writes (by decide)]
theorem VH_v4 (V : Valuation τ sig (Elt F)) : VH V main_v4 = takeVal (V main_arg5) (V main_arg0) := by
  rw [VH_eq, after_of_writes_sub _ _ opsB_writes (by decide)]
  unfold V4 V3 V2 V1
  rw [after_of_writes_sub _ _ ops3_writes (by decide), ops2_val, after_of_writes_sub _ _ ops1_writes (by decide), after_of_writes_sub _ _ ops1_writes (by decide),
    after_of_writes_sub _ _ opsA_writes (by decide), after_of_writes_sub _ _ opsA_writes (by decide)]
theorem VH_v5 (V : Valuation τ sig (Elt F)) : VH V main_v5 = takeVal (V main_arg6) (V main_arg1) := by
  rw [VH_eq, after_of_writes_sub _ _ opsB_writes (by decide)]
  unfold V4 V3 V2 V1
  rw [ops3_val, after_of_writes_sub _ _ ops2_writes (by decide), after_of_writes_sub _ _ ops2_writes (by decide),
    after_of_writes_sub _ _ ops1_writes (by decide), after_of_writes_sub _ _ ops1_writes (by decide),
    after_of_writes_sub _ _ opsA_writes (by decide), after_of_writes_sub _ _ opsA_writes (by decide)]
theorem VH_v6 (V : Valuation τ sig (Elt F)) : VH V main_v6 = tabVal (V main_arg7) := by
  rw [VH_eq, opsB_v6]
  unfold V4 V3 V2 V1
  rw [after_of_writes_sub _ _ ops3_writes (by decide), after_of_writes_sub _ _ ops2_writes (by decide), after_of_writes_sub _ _ ops1_writes (by decide),
    after_of_writes_sub _ _ opsA_writes (by decide)]

end Cert.Proof.Sc

end
-- ==== Proof.Region.lean ====
/-
  The TensorCore kernel: its body at one block, and the pipeline over the eight blocks.
-/
module

public import proofs.«01_k».proof.Proof.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.ValueKit
public import Idealize.ShloMosaic.Lib.VecWindow

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.TcCoe
open Idealize.ShloMosaic.Pipeline (Dat Cfg Window BodyObligation)

/-! ## The body -/

section Body

variable {c : Dev nD}

/-- A program that has returned. -/
theorem wp_end {p : Prog (TpuEff nD τ sig (Elt F) Λ₀ .tc) PUnit} (h : p = .ret ⟨⟩) {Q : PUnit → sProp 𝕄} :
    Q ⟨⟩ ⊢ wp frame (wpE (defs₀ (F := F)) 𝒱₀ (c : Thread nD τ) none) Set.univ p Q := by
  rw [h, wp_ret]
  iintro H
  imodintro
  iexact H

/-- A load of a whole memref, known by what it reads as. -/
theorem load_owns {α : Type} {s : Shape} {M : Memref sig .tc .vmem s .f32} {a : s.Idx → F .f32} {off : Fin s.rank → ℕ}
    {inb : ∀ x, off x + s.size x ≤ s.size x} {hl : M.view.LoadsAt (Rect.unit (s := s) off s.size inb).toLoadRect} (hw : M.IsWhole)
    {k : (s.Idx → F .f32) → Prog (TpuEff nD τ sig (Elt F) Λ₀ .tc) α} {Q : α → sProp 𝕄} :
    (owns (c : Thread nD τ) M fullShare a : sProp 𝕄)
      ⊢ iprop((owns (c : Thread nD τ) M fullShare a -∗ wp frame (wpE defs₀ 𝒱₀ (c : Thread nD τ) none) Set.univ (k a) Q)
        -∗ wp frame (wpE defs₀ 𝒱₀ (c : Thread nD τ) none) Set.univ (.op (.load M (Rect.unit (s := s) off s.size inb).toLoadRect hl) k) Q) := by
  unfold owns
  rw [hw.set_eq_univ]
  iintro ⟨%f, %hf, H⟩ Hk
  iapply (wp_load 𝒱₀ (c : Thread nD τ) none Set.univ (m := M) (Finset.subset_univ _)) $$ H
  iintro H
  rw [View.readAt_full, hf]
  iapply Hk
  iexists f
  isplitr; · ipureintro; exact hf
  iexact H

/-- A store of a whole memref. -/
theorem store_owns {α : Type} {s : Shape} {M : Memref sig .tc .vmem s .f32} {a : s.Idx → F .f32} {w : s.Idx → F .f32} {off : Fin s.rank → ℕ}
    {inb : ∀ x, off x + s.size x ≤ s.size x} {hx : (M.access (Rect.unit (s := s) off s.size inb)).Stores Finset.univ}
    {hm : (Finset.univ : Finset (Rect.unit (s := s) off s.size inb).shape.Idx) = Finset.univ ∨ ∀ a, (Rect.unit (s := s) off s.size inb).stride a = 1} (hw : M.IsWhole)
    {k : PUnit → Prog (TpuEff nD τ sig (Elt F) Λ₀ .tc) α} {Q : α → sProp 𝕄} :
    (owns (c : Thread nD τ) M fullShare a : sProp 𝕄)
      ⊢ iprop((owns (c : Thread nD τ) M fullShare w -∗ wp frame (wpE defs₀ 𝒱₀ (c : Thread nD τ) none) Set.univ (k ⟨⟩) Q)
        -∗ wp frame (wpE defs₀ 𝒱₀ (c : Thread nD τ) none) Set.univ (.op (.store M (Rect.unit (s := s) off s.size inb) w Finset.univ hx hm) k) Q) := by
  unfold owns
  rw [hw.set_eq_univ]
  iintro ⟨%f, %hf, H⟩ Hk
  iapply (wp_store 𝒱₀ (c : Thread nD τ) none Set.univ (m := M) (r := Rect.unit (s := s) off s.size inb) (f := f) (Finset.subset_univ _)) $$ H
  iintro H
  iapply Hk
  iexists _
  isplitr; swap; · iexact H
  ipureintro
  funext y
  exact View.read_writes_cons_unit_of_mem M.view f inb w [] y y rfl fun x => by
    have := inb x
    omega

set_option maxRecDepth 65536 in
/-- The body: from its blocks of the partial sums, the item rows, the target rows and the distances, the two result blocks. -/
theorem fin_wp (i : grid1.Coords) {M0 : Memref sig .tc .vmem S2048x16 .f32} (h0 : M0.IsWhole) {M1 : Memref sig .tc .vmem S2048x32 .f32} (h1 : M1.IsWhole)
    {M2 : Memref sig .tc .vmem S2048x32 .f32} (h2 : M2.IsWhole) {M3 : Memref sig .tc .vmem S2048x1 .f32} (h3 : M3.IsWhole)
    {M4 : Memref sig .tc .vmem S2048x1 .f32} (h4 : M4.IsWhole) {M5 : Memref sig .tc .vmem S2048x1 .f32} (h5 : M5.IsWhole)
    {a0 : S2048x16.Idx → F .f32} {a1 a2 : S2048x32.Idx → F .f32} {a3 a4 a5 : S2048x1.Idx → F .f32} {Q : PUnit → sProp 𝕄} :
    iprop(owns (c : Thread nD τ) M0 fullShare a0 ∗ owns (c : Thread nD τ) M1 fullShare a1 ∗ owns (c : Thread nD τ) M2 fullShare a2
        ∗ owns (c : Thread nD τ) M3 fullShare a3 ∗ owns (c : Thread nD τ) M4 fullShare a4 ∗ owns (c : Thread nD τ) M5 fullShare a5
        ∗ (iprop(owns (c : Thread nD τ) M0 fullShare a0 ∗ owns (c : Thread nD τ) M1 fullShare a1 ∗ owns (c : Thread nD τ) M2 fullShare a2
          ∗ owns (c : Thread nD τ) M3 fullShare a3 ∗ owns (c : Thread nD τ) M4 fullShare (k1_pay1 a0 a1 a2)
          ∗ owns (c : Thread nD τ) M5 fullShare (k1_pay2 a3)) -∗ Q ⟨⟩) : sProp 𝕄)
      ⊢ wp frame (wpE (defs₀ (F := F)) 𝒱₀ (c : Thread nD τ) none) Set.univ (cc1__fin_body (F := F) i M0 h0 M1 h1 M2 h2 M3 h3 M4 h4 M5 h5) Q := by
  rw [cc1__fin_body_eq_skeleton]
  unfold cc1__fin_body_skel
  iintro ⟨H0, H1, H2, H3, H4, H5, Hk⟩
  iapply (load_owns h0) $$ H0
  iintro H0
  iapply (load_owns h1) $$ H1
  iintro H1
  iapply (load_owns h2) $$ H2
  iintro H2
  iapply (load_owns h4) $$ H4
  iintro H4
  iapply (store_owns h4) $$ H4
  iintro H4
  iapply (load_owns h3) $$ H3
  iintro H3
  iapply (load_owns h5) $$ H5
  iintro H5
  iapply (store_owns h5) $$ H5
  iintro H5
  iapply (wp_end rfl)
  iapply Hk
  isplitl [H0]; · iexact H0
  isplitl [H1]; · iexact H1
  isplitl [H2]; · iexact H2
  isplitl [H3]; · iexact H3
  isplitl [H4]; · iexact H4
  iexact H5

end Body

/-! ## The proof data, at the arrays the region is entered with -/

/-- Block `t` of an array of 16384 rows. -/
def rowsAt {n : ℕ} (f : Shape.Idx ⟨2, ![16384, n]⟩ → F .f32) (t : ℕ) : Shape.Idx ⟨2, ![2048, n]⟩ → F .f32 :=
  fun y => f (ValueIdx.ix2 (Fin.ofNat 16384 (2048 * t + (y 0).val)) (y 1 : Fin n))

/-- The first result: every row from its row of the partial sums, of the item rows and of the target rows. -/
def fin0 (p : S16384x16.Idx → F .f32) (a b : S16384x32.Idx → F .f32) : S16384x1.Idx → F .f32 :=
  fun x => k1_pay1 (rowsAt p ((x 0).val / 2048)) (rowsAt a ((x 0).val / 2048)) (rowsAt b ((x 0).val / 2048))
    (ValueIdx.ix2 (Fin.ofNat 2048 ((x 0).val % 2048)) (x 1 : Fin 1))

/-- The second result: every row from its row of the distances. -/
def fin1 (z : S16384x1.Idx → F .f32) : S16384x1.Idx → F .f32 :=
  fun x => k1_pay2 (rowsAt z ((x 0).val / 2048)) (ValueIdx.ix2 (Fin.ofNat 2048 ((x 0).val % 2048)) (x 1 : Fin 1))

section Data

variable (V : (c : Dev nD) → (b : Ref sig .tc) → Buf (Elt F) ((c : Thread nD τ).loc b))

/-- What the fetch of each window that is read stages at point `t`. -/
abbrev stg0 (c : Dev nD) (t : Fin cfg1.N) : S2048x16.Idx → F .f32 := ((cfg1.win 0).blk t).view.read (Elt F) (V c main_v7)
abbrev stg1 (c : Dev nD) (t : Fin cfg1.N) : S2048x32.Idx → F .f32 := ((cfg1.win 1).blk t).view.read (Elt F) (V c main_v4)
abbrev stg2 (c : Dev nD) (t : Fin cfg1.N) : S2048x32.Idx → F .f32 := ((cfg1.win 2).blk t).view.read (Elt F) (V c main_v5)
abbrev stg3 (c : Dev nD) (t : Fin cfg1.N) : S2048x1.Idx → F .f32 := ((cfg1.win 3).blk t).view.read (Elt F) (V c main_arg3)

/-- The bound on the waits recorded before the region. -/
def before1 (c : Dev nD) : Set (SemLoc sig × HIx 1) := {p | (K (F := F)).lev (T c, p.1) p.2 ≤ 8}

def dat (c : Dev nD) : Dat τ (Elt F) (HIx 1) ℕ UU ℕ cfg1 c where
  A w := V c (Pipeline.arrRef spec1 w)
  after w t := match w with
    | ⟨0, _⟩ => stg0 V c t
    | ⟨1, _⟩ => stg1 V c t
    | ⟨2, _⟩ => stg2 V c t
    | ⟨3, _⟩ => stg3 V c t
    | ⟨4, _⟩ => k1_pay1 (stg0 V c t) (stg1 V c t) (stg2 V c t)
    | ⟨5, _⟩ => k1_pay2 (stg3 V c t)
  Φ _ := BI.emp
  q _ := fullShare
  owed _ := 0
  recorded _ := before1 (F := F) c

theorem before_eq (c : Dev nD) (t : Fin cfg1.N) :
    (∀ d, (dat V c).before 0 t d = stg0 V c t) ∧ (∀ d, (dat V c).before 1 t d = stg1 V c t) ∧ (∀ d, (dat V c).before 2 t d = stg2 V c t)
      ∧ (∀ d, (dat V c).before 3 t d = stg3 V c t) :=
  ⟨fun d => by unfold Dat.before; rw [if_pos (fetch1_0 t)]; rfl, fun d => by unfold Dat.before; rw [if_pos (fetch1_1 t)]; rfl,
    fun d => by unfold Dat.before; rw [if_pos (fetch1_2 t)]; rfl, fun d => by unfold Dat.before; rw [if_pos (fetch1_3 t)]; rfl⟩

theorem body_obligation (c : Dev nD) : BodyObligation (dat V c) (defs₀ (F := F)) 𝒱₀ none Set.univ := fun t => by
  obtain ⟨b0, b1, b2, b3⟩ := before_eq V c t
  rw [bigSep_W1, bigSep_W1]
  simp only [b0, b1, b2, b3]
  rw [show (dat V c).Φ t.castSucc = BI.emp from rfl, show (dat V c).Φ t.succ = BI.emp from rfl,
    show (dat V c).owesAt none t.succ = (dat V c).owesAt none t.castSucc from rfl]
  iintro ⟨-, HO, ⟨%_, H0⟩, ⟨%_, H1⟩, ⟨%_, H2⟩, ⟨%_, H3⟩, ⟨%_, H4⟩, ⟨%_, H5⟩⟩
  iapply (fin_wp (c := c) (grid1.coords t) (hstage1_0 ((cfg1.slots t 0).cast nbuf1_0)) (hstage1_1 ((cfg1.slots t 1).cast nbuf1_1))
    (hstage1_2 ((cfg1.slots t 2).cast nbuf1_2)) (hstage1_3 ((cfg1.slots t 3).cast nbuf1_3)) (hstage1_4 ((cfg1.slots t 4).cast nbuf1_4))
    (hstage1_5 ((cfg1.slots t 5).cast nbuf1_5)))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitr; · iempintro
  isplitl [HO]; · iexact HO
  isplitl [H0]; · iexact H0
  isplitl [H1]; · iexact H1
  isplitl [H2]; · iexact H2
  isplitl [H3]; · iexact H3
  isplitl [H4]; · iexact H4
  iexact H5

theorem point_val (t : Fin cfg1.N) : cc1_transform_0 (grid1.coords t) = ![t.val, 0] := by
  rcases fin_N1 t with rfl | rfl | rfl | rfl | rfl | rfl | rfl | rfl <;> decide

theorem stg0_eq (c : Dev nD) (t : Fin cfg1.N) : stg0 V c t = rowsAt (V c main_v7) t.val := by
  have ht : t.val < 8 := t.isLt
  refine funext fun y => congrArg (V c main_v7) (Shape.idx_ext₂ ?_ ?_)
  · have hy : (y 0).val < 2048 := (y 0).isLt
    show (((cfg1.win 0).blk t).view.emb y 0).val = (2048 * t.val + (y 0).val) % 16384
    blk_simp
    rw [show win1_0.index t 0 = t.val from congrFun (point_val t) 0]
    omega
  · show (((cfg1.win 0).blk t).view.emb y 1).val = (y 1).val
    blk_simp
    rw [show win1_0.index t 1 = 0 from congrFun (point_val t) 1]
    omega

theorem stg1_eq (c : Dev nD) (t : Fin cfg1.N) : stg1 V c t = rowsAt (V c main_v4) t.val := by
  have ht : t.val < 8 := t.isLt
  refine funext fun y => congrArg (V c main_v4) (Shape.idx_ext₂ ?_ ?_)
  · have hy : (y 0).val < 2048 := (y 0).isLt
    show (((cfg1.win 1).blk t).view.emb y 0).val = (2048 * t.val + (y 0).val) % 16384
    blk_simp
    rw [show win1_1.index t 0 = t.val from congrFun (point_val t) 0]
    omega
  · show (((cfg1.win 1).blk t).view.emb y 1).val = (y 1).val
    blk_simp
    rw [show win1_1.index t 1 = 0 from congrFun (point_val t) 1]
    omega

theorem stg2_eq (c : Dev nD) (t : Fin cfg1.N) : stg2 V c t = rowsAt (V c main_v5) t.val := by
  have ht : t.val < 8 := t.isLt
  refine funext fun y => congrArg (V c main_v5) (Shape.idx_ext₂ ?_ ?_)
  · have hy : (y 0).val < 2048 := (y 0).isLt
    show (((cfg1.win 2).blk t).view.emb y 0).val = (2048 * t.val + (y 0).val) % 16384
    blk_simp
    rw [show win1_2.index t 0 = t.val from congrFun (point_val t) 0]
    omega
  · show (((cfg1.win 2).blk t).view.emb y 1).val = (y 1).val
    blk_simp
    rw [show win1_2.index t 1 = 0 from congrFun (point_val t) 1]
    omega

theorem stg3_eq (c : Dev nD) (t : Fin cfg1.N) : stg3 V c t = rowsAt (V c main_arg3) t.val := by
  have ht : t.val < 8 := t.isLt
  refine funext fun y => congrArg (V c main_arg3) (Shape.idx_ext₂ ?_ ?_)
  · have hy : (y 0).val < 2048 := (y 0).isLt
    show (((cfg1.win 3).blk t).view.emb y 0).val = (2048 * t.val + (y 0).val) % 16384
    blk_simp
    rw [show win1_3.index t 0 = t.val from congrFun (point_val t) 0]
    omega
  · show (((cfg1.win 3).blk t).view.emb y 1).val = (y 1).val
    blk_simp
    exact congrFun (point_val t) 1

/-- An index of a result block, as its block's index of the whole result. -/
theorem block_idx (z : S16384x1.Idx) (y : S2048x1.Idx) (t : ℕ) (h0 : (z 0).val = 2048 * t + (y 0).val) (h1 : (z 1).val = (y 1).val) :
    (z 0).val / 2048 = t ∧ (ValueIdx.ix2 (Fin.ofNat 2048 ((z 0).val % 2048)) (z 1 : Fin 1) : S2048x1.Idx) = y := by
  have hy : (y 0).val < 2048 := (y 0).isLt
  refine ⟨by omega, Shape.idx_ext₂ ?_ h1⟩
  show (z 0).val % 2048 % 2048 = (y 0).val
  omega

theorem emb4 (t : Fin cfg1.N) (y : S2048x1.Idx) : ((((cfg1.win 4).blk t).view.emb y) 0).val = 2048 * t.val + (y 0).val
    ∧ ((((cfg1.win 4).blk t).view.emb y) 1).val = (y 1).val := by
  constructor
  · blk_simp
    rw [show win1_4.index t 0 = t.val from congrFun (point_val t) 0, Nat.mul_comm]
  · blk_simp
    exact congrFun (point_val t) 1

theorem emb5 (t : Fin cfg1.N) (y : S2048x1.Idx) : ((((cfg1.win 5).blk t).view.emb y) 0).val = 2048 * t.val + (y 0).val
    ∧ ((((cfg1.win 5).blk t).view.emb y) 1).val = (y 1).val := by
  constructor
  · blk_simp
    rw [show win1_5.index t 0 = t.val from congrFun (point_val t) 0, Nat.mul_comm]
  · blk_simp
    exact congrFun (point_val t) 1

/-- The results' arrays after the region. -/
theorem arr4 (c : Dev nD) : (dat V c).arrAt 4 cfg1.N = fin0 (V c main_v7) (V c main_v4) (V c main_v5) := by
  refine (dat V c).arrAt_eq_of_covers 4 _ (by decide +kernel) fun t _ y => ?_
  obtain ⟨ht, hy⟩ := block_idx (((cfg1.win 4).blk t).view.emb y) y t.val (emb4 t y).1 (emb4 t y).2
  refine Eq.trans (b := k1_pay1 (stg0 V c t) (stg1 V c t) (stg2 V c t) y) rfl ?_
  unfold fin0
  rw [ht, hy, stg0_eq, stg1_eq, stg2_eq]

theorem arr5 (c : Dev nD) : (dat V c).arrAt 5 cfg1.N = fin1 (V c main_arg3) := by
  refine (dat V c).arrAt_eq_of_covers 5 _ (by decide +kernel) fun t _ y => ?_
  obtain ⟨ht, hy⟩ := block_idx (((cfg1.win 5).blk t).view.emb y) y t.val (emb5 t y).1 (emb5 t y).2
  refine Eq.trans (b := k1_pay2 (stg3 V c t) y) rfl ?_
  unfold fin1
  rw [ht, hy, stg3_eq]

end Data

/-! ## The region over the thread's state -/

section Region

variable (V : (c : Dev nD) → (b : Ref sig .tc) → Buf (Elt F) ((c : Thread nD τ).loc b))

/-- No pipeline has prefetched tables. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- What the core owes in the region: nothing, its recorded waits below the next call's. -/
abbrev Owed (c : Dev nD) : sProp 𝕄 := iprop(∃ W : Waits sig (HIx 1), ⌜↑W ⊆ before1 (F := F) c⌝ ∗ owes (c : Thread nD τ) (0 : CellTallies nD τ sig (HIx 1)) W)

theorem waits_before (c : Dev nD) (t : Fin (cfg1.N + 1)) : (dat V c).bound none t ⊆ before1 (F := F) c :=
  Set.union_subset (fun _ h => h) fun p ⟨w, s, h⟩ => by subst h; exact Nat.zero_le _

variable (Vp : (c : Dev nD) → (b : Ref sig .tc) → Buf (Elt F) ((c : Thread nD τ).loc b))

set_option backward.isDefEq.respectTransparency.types false in
/-- The region: from every unscoped buffer at `V`, to them at `Vp`, which has the two results at their values. -/
def reg (h4 : ∀ c, Vp c main_v8_0 = fin0 (V c main_v7) (V c main_v4) (V c main_v5)) (h5 : ∀ c, Vp c main_v8_1 = fin1 (V c main_arg3))
    (hne : ∀ c (b : Ref sig .tc), b ≠ main_v8_0 → b ≠ main_v8_1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Owed c)
  post c := iprop(unscopedBufs c (Vp c) ∗ Owed c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr; · ipureintro; exact fun p hp => Or.inl (hW hp)
      iexact HO
    isplitr; · iempintro
    iexact Hrest
  hin c := by
    have h : (Pipeline.scopedRest (Ix := HIx 1) (Name := ℕ) (U := UU) (Lvl := ℕ) (Val := Elt F) spec1 c : sProp 𝕄) = BI.emp := scopedRest1_eq c
    rw [show (pdats V 0 c).Φ 0 = BI.emp from rfl]
    iintro ⟨-, -, -⟩
    iempintro
  hout c := by
    have h : (Pipeline.scopedRest (Ix := HIx 1) (Name := ℕ) (U := UU) (Lvl := ℕ) (Val := Elt F) spec1 c : sProp 𝕄) = BI.emp := scopedRest1_eq c
    rw [Pipeline.ownSems0_none, show (pdats V 0 c).Φ (Fin.last _) = BI.emp from rfl]
    iintro -
    isplitr; · iempintro
    isplitr; · iempintro
    iapply (Entails.of_eq h.symm)
    iempintro
  hexit c := by
    have hjoin := Pipeline.unscopedBufs_of_arrays (p := 0) (pcfgs (F := F)) adm (Ix := HIx 1) (Name := ℕ) (U := UU) (Lvl := ℕ) launch1.win
      launch1.arr_whole c (pdats V) ((pdats V 0 c).share_full fun _ => rfl) (V c) (Vp c) ((pdats V 0 c).arrAt · cfg1.N)
      (fun w => by
        fin_cases w
        · exact ((pdats V 0 c).arrAt_in 0 rfl _).trans (hne c main_v7 (by decide) (by decide)).symm
        · exact ((pdats V 0 c).arrAt_in 1 rfl _).trans (hne c main_v4 (by decide) (by decide)).symm
        · exact ((pdats V 0 c).arrAt_in 2 rfl _).trans (hne c main_v5 (by decide) (by decide)).symm
        · exact ((pdats V 0 c).arrAt_in 3 rfl _).trans (hne c main_arg3 (by decide) (by decide)).symm
        · exact (arr4 V c).trans (h4 c).symm
        · exact (arr5 V c).trans (h5 c).symm)
      (fun b hb => hne c b (fun h => hb (h ▸ Finset.mem_image.mpr ⟨4, Finset.mem_univ _, rfl⟩)) fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W
    isplitr; · ipureintro; exact hW.trans (waits_before V c _)
    iexact HO

end Region

end Cert.Proof.Sc

end
-- ==== Proof.Main.lean ====
/-
  The whole program of a device: its host operations, the SparseCore call and the TensorCore region, run one after the
  other; and the launch of all the devices.
-/
module

public import proofs.«01_k».proof.Proof.Host
public import proofs.«01_k».proof.Proof.Region
public import Idealize.ShloMosaic.Lib.SparseCore.Quiescent

@[expose] public section

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo Idealize.ShloMosaic.TcCoe

section Values
variable (m : ∀ ℓ : Loc nD τ sig, Buf (Elt F) ℓ)

/-- Device `d`'s arrays at the launch. -/
def V0 (d : Dev nD) : Valuation τ sig (Elt F) := fun b => m (d, b)

/-- What the SparseCore call of device `d` reads. -/
def A (d : Dev nD) : Args F where
  H := histVal (V0 m d main_arg2)
  Ds := distVal (V0 m d main_arg4)
  Hj := takeVal (V0 m d main_arg8) (V0 m d main_arg1)
  Tb := tabVal (V0 m d main_arg7)
  O0 := V0 m d main_v7

/-- Device `d`'s arrays after the SparseCore call. -/
def VS (d : Dev nD) : Valuation τ sig (Elt F) := Function.update (VH (V0 m d)) main_v7 (A m d).out

/-- The two results. -/
def R0 (d : Dev nD) : S16384x1.Idx → F .f32 :=
  fin0 (A m d).out (takeVal (V0 m d main_arg5) (V0 m d main_arg0))
    (takeVal (V0 m d main_arg6) (V0 m d main_arg1))
def R1 (d : Dev nD) : S16384x1.Idx → F .f32 := fin1 (V0 m d main_arg3)

/-- Device `d`'s arrays at the end. -/
def VE (d : Dev nD) : Valuation τ sig (Elt F) := Function.update (Function.update (VS m d) main_v8_0 (R0 m d)) main_v8_1 (R1 m d)

theorem dref_ne {a b : Ref sig .tc} (h : a ≠ b) : (Proc.devRef (τ := τ) .tc a) ≠ Proc.devRef .tc b := fun e => h (Proc.devRef_injective _ e)

theorem VS_of_ne (d : Dev nD) (b : Ref sig .tc) (h : b ≠ main_v7) : VS m d b = VH (V0 m d) b := Function.update_of_ne (dref_ne h) _ _
theorem VS_v7 (d : Dev nD) : VS m d main_v7 = (A m d).out := Function.update_self _ _ _
theorem VE_v8_1 (d : Dev nD) : VE m d main_v8_1 = R1 m d := Function.update_self _ _ _
theorem VE_of_ne (d : Dev nD) (b : Ref sig .tc) (h0 : b ≠ main_v8_0) (h1 : b ≠ main_v8_1) : VE m d b = VS m d b :=
  (Function.update_of_ne (dref_ne h1) _ _).trans (Function.update_of_ne (dref_ne h0) _ _)
theorem VE_v8_0 (d : Dev nD) : VE m d main_v8_0 = R0 m d :=
  (Function.update_of_ne (dref_ne (by decide)) _ _).trans (Function.update_self _ _ _)

theorem VE_v8_0' (d : Dev nD) : VE m d main_v8_0 = fin0 (VS m d main_v7) (VS m d main_v4) (VS m d main_v5) := by
  rw [VE_v8_0, VS_v7, VS_of_ne m d _ (by decide), VS_of_ne m d _ (by decide), VH_v4, VH_v5]; rfl
theorem VE_v8_1' (d : Dev nD) : VE m d main_v8_1 = fin1 (VS m d main_arg3) := by
  rw [VE_v8_1, VS_of_ne m d _ (by decide), VH_of_not_mem _ _ (by decide) (by decide) (by decide) (by decide) (by decide)]; rfl

/-- An array no operation and no kernel writes is at the end as at the launch. -/
theorem VE_arg (d : Dev nD) (r : Ref sig .tc) (hA : r ∉ wA) (h1 : r ∉ w1) (h2 : r ∉ w2) (h3 : r ∉ w3) (hB : r ∉ wB)
    (h7 : r ≠ main_v7) (h80 : r ≠ main_v8_0) (h81 : r ≠ main_v8_1) : VE m d r = m (d, r) := by
  rw [VE_of_ne m d r h80 h81, VS_of_ne m d r h7, VH_of_not_mem _ r hA h1 h2 h3 hB]; rfl

theorem VH_H (d : Dev nD) : VH (V0 m d) main_v0 = (A m d).H := by rw [VH_v0]; rfl
theorem VH_Ds (d : Dev nD) : VH (V0 m d) main_v2 = (A m d).Ds := by rw [VH_v2]; rfl
theorem VH_Hj (d : Dev nD) : VH (V0 m d) main_v3 = (A m d).Hj := by unfold A; rw [VH_v3]
theorem VH_Tb (d : Dev nD) : VH (V0 m d) main_v6 = (A m d).Tb := by rw [VH_v6]; rfl
theorem VH_O (d : Dev nD) : VH (V0 m d) main_v7 = (A m d).O0 :=
  VH_of_not_mem (V0 m d) main_v7 (by decide) (by decide) (by decide) (by decide) (by decide)
theorem VS_H (d : Dev nD) : VS m d main_v0 = (A m d).H := by rw [VS_of_ne m d _ (by decide), VH_H]
theorem VS_Ds (d : Dev nD) : VS m d main_v2 = (A m d).Ds := by rw [VS_of_ne m d _ (by decide), VH_Ds]
theorem VS_Hj (d : Dev nD) : VS m d main_v3 = (A m d).Hj := by rw [VS_of_ne m d _ (by decide), VH_Hj]
theorem VS_Tb (d : Dev nD) : VS m d main_v6 = (A m d).Tb := by rw [VS_of_ne m d _ (by decide), VH_Tb]

end Values

/-! ## The call's arrays among all -/

/-- The call's arrays. -/
def S5 : Finset (DevRef τ sig) :=
  {(main_v0 : DevRef τ sig), (main_v2 : DevRef τ sig), (main_v3 : DevRef τ sig), (main_v6 : DevRef τ sig), (main_v7 : DevRef τ sig)}

theorem mem_ucRefs (r : Ref sig .tc) (h : ¬ (Proc.devRef (τ := τ) .tc r).isScoped) : Proc.devRef .tc r ∈ ucRefs :=
  Finset.mem_filter.mpr ⟨Finset.mem_map_of_mem _ (Finset.mem_univ r), h⟩

theorem S5_sub : S5 ⊆ ucRefs := by
  intro b hb
  simp only [S5, Finset.mem_insert, Finset.mem_singleton] at hb
  rcases hb with rfl | rfl | rfl | rfl | rfl <;> exact mem_ucRefs _ (by decide)

theorem star_assoc (P Q R : sProp 𝕄) : iprop((P ∗ Q) ∗ R) = iprop(P ∗ Q ∗ R) := equiv_iff.mp ⟨BI.sep_assoc, BI.sep_assoc'⟩

theorem held_S5 (d : Dev nD) (a : Args F) (o : S16384x16.Idx → F .f32) (V : Valuation τ sig (Elt F)) (h0 : V main_v0 = a.H) (h2 : V main_v2 = a.Ds)
    (h3 : V main_v3 = a.Hj) (h6 : V main_v6 = a.Tb) (h7 : V main_v7 = o) :
    (held (SparseCore.T d : Thread nD τ) S5 V : sProp 𝕄) = Whole d a o := by
  unfold held S5 Whole
  rw [SparseCore.bigSep_insert' (by decide), SparseCore.bigSep_insert' (by decide), SparseCore.bigSep_insert' (by decide),
    SparseCore.bigSep_insert' (by decide), bigSep_singleton, h0, h2, h3, h6, h7, star_assoc, star_assoc, star_assoc]

/-! ## The device's program -/

section Run
variable (m : (ℓ : Loc nD τ sig) → Buf (Elt F) ℓ) (ρ : Dev nD → PrngReg)

/-- The region's ghost state on device `d`. -/
def Gh (d : Dev nD) : sProp 𝕄 :=
  iprop(Pipeline.cellsGhost (Pipeline.pin (pcfgs (F := F)) adm) EP 0 d ∗ Pipeline.toksInit (Pipeline.pin (pcfgs (F := F)) adm) EP 0 d)

/-- After the last call the TensorCore owes nothing. -/
theorem tcSt_owed (d : Dev nD) : ∃ R : sProp 𝕄, ((K (F := F)).tcSt EH d 1 : sProp 𝕄) = iprop(Owed d ∗ R) := by
  unfold SparseCore.Cfg.tcSt
  rw [SparseCore.Cfg.Otc_end (K (F := F)) d (le_refl 1)]
  exact ⟨_, rfl⟩

theorem held_rest (d : Dev nD) :
    (held (SparseCore.T d : Thread nD τ) (ucRefs \ S5) (VH (V0 m d)) : sProp 𝕄) = held (SparseCore.T d : Thread nD τ) (ucRefs \ S5) (VS m d) := by
  unfold held
  refine bigSep_congr fun b hb => ?_
  have h : b ≠ (main_v7 : DevRef τ sig) := fun e => (Finset.mem_sdiff.mp hb).2 (by rw [e]; unfold S5; decide)
  rw [show VS m d b = VH (V0 m d) b from Function.update_of_ne h _ _]

/-- The arrays before the call: the call's, and the rest. -/
theorem held_before (d : Dev nD) :
    (held (SparseCore.T d : Thread nD τ) ucRefs (VH (V0 m d)) : sProp 𝕄)
      = iprop((bigSep Finset.univ fun c : Fin 2 => bigSep Finset.univ fun s : Fin 16 => Part d (A m d) (A m d).O0 c s)
          ∗ held (SparseCore.T d : Thread nD τ) (ucRefs \ S5) (VS m d)) := by
  rw [held_sub_split _ S5_sub, held_rest, held_S5 d (A m d) (A m d).O0 (VH (V0 m d)) (VH_H m d) (VH_Ds m d) (VH_Hj m d) (VH_Tb m d) (VH_O m d),
    whole_parts]

/-- The arrays after the call. -/
theorem held_after (d : Dev nD) :
    iprop((bigSep Finset.univ fun c : Fin 2 => bigSep Finset.univ fun s : Fin 16 => Part d (A m d) (A m d).out c s)
          ∗ held (SparseCore.T d : Thread nD τ) (ucRefs \ S5) (VS m d))
      = (held (SparseCore.T d : Thread nD τ) ucRefs (VS m d) : sProp 𝕄) := by
  rw [held_sub_split _ S5_sub, held_S5 d (A m d) (A m d).out (VS m d) (VS_H m d) (VS_Ds m d) (VS_Hj m d) (VS_Tb m d) (VS_v7 m d), whole_parts]

/-- The region, from the arrays after the call. -/
def regE : Pipeline.RegionSeg (pcfgs (F := F)) adm (pdats fun c b => VS m c b) none defs₀ 𝒱₀ (K (F := F)).L (K (F := F)).lev 0 :=
  reg (fun c b => VS m c b) (fun c b => VE m c b) (fun c => VE_v8_0' m c) (fun c => VE_v8_1' m c) (fun c b h0 h1 => VE_of_ne m c b h0 h1)

/-- The region's call. -/
abbrev regProg : Prog (TpuEff nD τ sig (Elt F) (ΛP (F := F)) .tc) PUnit := .op (.customCall (Pipeline.entry 0) ()) fun _ => .ret ⟨⟩

theorem regProg_eq : (Prog.lift (.customCall (SparseCore.inner (Pipeline.entry 0)) ()) >>= fun _ => pure ⟨⟩ :
    Prog (TpuEff nD τ sig (Elt F) (SparseCore.Sig (ΛP (F := F)) 1) .tc) PUnit) = SparseCore.liftProg regProg := rfl

theorem region_lift (d : Dev nD) (Q : PUnit → sProp 𝕄) :
    wp frame (wpE (D (F := F)) 𝒱 (SparseCore.T d) none) Set.univ regProg Q
      ⊢ wp frame (wpE ((K (F := F)).defs (D (F := F))) 𝒱 (SparseCore.T d) none) Set.univ (SparseCore.liftProg regProg) Q :=
  (K (F := F)).wp_liftProg (D (F := F)) 𝒱 (SparseCore.T d) Set.univ none regProg Q

theorem pin_inj : Function.Injective (Pipeline.cellOf (nD := nD) (τ := τ) (Pipeline.pin (pcfgs (F := F)) adm)) := cellOf_inj

theorem regE_pre (d : Dev nD) : (regE m).pre d = iprop(held (SparseCore.T d : Thread nD τ) ucRefs (VS m d) ∗ Owed d) := by
  rw [← unscopedBufs_held]; rfl
theorem regE_post (d : Dev nD) : (regE m).post d = iprop(held (SparseCore.T d : Thread nD τ) ucRefs (VE m d) ∗ Owed d) := by
  rw [← unscopedBufs_held]; rfl

theorem region_seg [∀ e, Nonempty (Elt F e)] (d : Dev nD) (Q : PUnit → sProp 𝕄) :
    iprop((iprop(boundary (SparseCore.T d : Thread nD τ) ∗ (regE m).post d)
          -∗ wp frame (wpE (D (F := F)) 𝒱 (SparseCore.T d) none) Set.univ (.ret ⟨⟩) Q)
        ∗ boundary (SparseCore.T d : Thread nD τ) ∗ (regE m).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ regProg Q := by
  have hbd : ∀ u ∈ (none : Option 𝒱.V), 𝒱.lt (.inr ((Pipeline.pin (pcfgs (F := F)) adm 0).tripCount + 1)) u := fun u hu => nomatch hu
  have H := Pipeline.RegionSeg.wp (pcfgs (F := F)) adm (pdats fun c b => VS m c b) none
    pin_inj EP defs₀ 𝒱₀ (K (F := F)).L (K (F := F)).lev (regE m) d none
    hbd (fun _ => .ret ⟨⟩) Q
  exact H

theorem region_wp [∀ e, Nonempty (Elt F e)] (d : Dev nD) (Q : PUnit → sProp 𝕄) :
    iprop((iprop(boundary (SparseCore.T d : Thread nD τ) ∗ held (SparseCore.T d : Thread nD τ) ucRefs (VE m d) ∗ Owed d) -∗ Q ⟨⟩)
        ∗ boundary (SparseCore.T d : Thread nD τ) ∗ (held (SparseCore.T d : Thread nD τ) ucRefs (VS m d) ∗ Owed d) ∗ levAts (K (F := F)).L (K (F := F)).lev ∗ Gh d)
      ⊢ wp frame (wpE (D (F := F)) 𝒱 (SparseCore.T d) none) Set.univ regProg Q := by
  refine BIBase.Entails.trans ?_ (region_seg m d Q)
  iintro ⟨HQ, Hb, ⟨Hh, Ho⟩, Hl, Hg⟩
  unfold Gh
  icases Hg with ⟨Hg, Ht⟩
  isplitl [HQ]
  · iintro ⟨Hb, Hp⟩
    rw [wp_ret]
    imodintro
    iapply HQ
    isplitl [Hb]; · iexact Hb
    iapply (Entails.of_eq (regE_post m d))
    iexact Hp
  isplitl [Hb]; · iexact Hb
  isplitl [Hh Ho]
  · iapply (Entails.of_eq (regE_pre m d).symm)
    isplitl [Hh] <;> iassumption
  isplitl [Hl]; · iexact Hl
  isplitl [Hg] <;> iassumption

/-- What a device ends with. -/
def FIN (d : Dev nD) : sProp 𝕄 := held (SparseCore.T d : Thread nD τ) ucRefs (VE m d)

theorem st0_eq (d : Dev nD) : (bigSep Finset.univ fun c : Fin ((K (F := F)).nCore 0) => (P (A m)).st 0 d c)
    = (bigSep Finset.univ fun c : Fin 2 => bigSep Finset.univ fun s : Fin 16 => Part d (A m d) (A m d).O0 c s : sProp 𝕄) := rfl
theorem dn0_eq (d : Dev nD) : (bigSep Finset.univ fun c : Fin ((K (F := F)).nCore 0) => (P (A m)).dn 0 d c)
    = (bigSep Finset.univ fun c : Fin 2 => bigSep Finset.univ fun s : Fin 16 => Part d (A m d) (A m d).out c s : sProp 𝕄) := rfl

/-- The region at the end of the program, with the thread's state around it. -/
theorem tail_wp [∀ e, Nonempty (Elt F e)] (κ : GSem nD τ sig → ℕ) (d : Dev nD) :
    iprop((K (F := F)).ctx EH (P (A m)) κ (K (F := F)).lev ∗ (K (F := F)).tcSt EH d 1 ∗ boundary (SparseCore.T d : Thread nD τ)
        ∗ held (SparseCore.T d : Thread nD τ) ucRefs (VS m d) ∗ (K (F := F)).tcSems0 d ∗ Gh d)
      ⊢ wp frame (wpE ((K (F := F)).defs (D (F := F))) 𝒱 (SparseCore.T d) none) Set.univ
          (Prog.lift (.customCall (SparseCore.inner (Pipeline.entry 0)) ()) >>= fun _ => pure ⟨⟩ :
            Prog (TpuEff nD τ sig (Elt F) (SparseCore.Sig (ΛP (F := F)) 1) .tc) PUnit)
          fun _ => iprop((K (F := F)).tcSt EH d 1 ∗ FIN m d ∗ (K (F := F)).tcEnd d) := by
  rw [regProg_eq]
  refine BIBase.Entails.trans ?_ (region_lift d _)
  refine BIBase.Entails.trans ?_ (region_wp m d _)
  obtain ⟨R, hR⟩ := tcSt_owed (F := F) d
  rw [hR]
  unfold SparseCore.Cfg.tcEnd FIN
  iintro ⟨Hc, ⟨Ho, HR⟩, Hb, Hh, Hs, Hg⟩
  isplitl [HR Hs]
  · iintro ⟨Hb, Hh, Ho⟩
    isplitl [Ho HR]
    · isplitl [Ho] <;> iassumption
    isplitl [Hh]; · iexact Hh
    isplitl [Hb] <;> iassumption
  isplitl [Hb]; · iexact Hb
  isplitl [Hh Ho]
  · isplitl [Hh] <;> iassumption
  isplitl [Hc]
  · iapply (SparseCore.Cfg.ctx_levAts κ); iexact Hc
  iexact Hg

theorem host_wp (d : Dev nD) (k : PUnit → Prog (TpuEff nD τ sig (Elt F) (SparseCore.Sig (ΛP (F := F)) 1) .tc) PUnit) (Q : PUnit → sProp 𝕄) :
    iprop(boundary (SparseCore.T d : Thread nD τ) ∗ held (SparseCore.T d : Thread nD τ) ucRefs (V0 m d))
      ⊢ iprop((iprop(boundary (SparseCore.T d : Thread nD τ) ∗ held (SparseCore.T d : Thread nD τ) ucRefs (VH (V0 m d)))
            -∗ wp frame (wpE ((K (F := F)).defs (D (F := F))) 𝒱 (SparseCore.T d) none) Set.univ (k ⟨⟩) Q)
          -∗ wp frame (wpE ((K (F := F)).defs (D (F := F))) 𝒱 (SparseCore.T d) none) Set.univ (seq hostOps >>= k) Q) :=
by
  have h1 : ∀ op ∈ (hostOps : List (HloOp τ sig (Elt F))), op.bufs ⊆ ucRefs := fun op h => sub_ucRefs op (List.forall_iff_forall_mem.mp hostOps_sub op h)
  have h2 : ∀ op ∈ (hostOps : List (HloOp τ sig (Elt F))), op.fresh = ∅ := fun op h => List.forall_iff_forall_mem.mp hostOps_fresh op h
  unfold VH
  generalize (hostOps : List (HloOp τ sig (Elt F))) = ops at h1 h2 ⊢
  exact StableHlo.wp_seq 𝒱 none Set.univ d ucRefs k ops h1 h2 (V0 m d)

theorem hmain [∀ e, Nonempty (Elt F e)] (κ : GSem nD τ sig → ℕ) (d : Dev nD) :
    iprop((K (F := F)).ctx EH (P (A m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes
  rw [show (unscopedBufs d (fun b => m ((SparseCore.T d : Thread nD τ).loc b)) : sProp 𝕄) = held (SparseCore.T d : Thread nD τ) ucRefs (V0 m d) from
    unscopedBufs_held d (V0 m d), main_eq]
  iintro ⟨#Hctx, Hst, ⟨Hb, Hh, Hs, -⟩, Hg⟩
  iapply (host_wp m d _ _) $$ [Hb Hh]
  · isplitl [Hb] <;> iassumption
  iintro ⟨Hb, Hh⟩
  ihave Hh := (Entails.of_eq (held_before m d)) $$ Hh
  icases Hh with ⟨Hp, Hr⟩
  rw [wp_bind]
  iapply ((K (F := F)).wp_run (D (F := F)) 𝒱 (EH := EH) (P := P (A m)) κ d 0) $$ [Hst Hp Hb Hr Hs Hg]
  isplitr; · iexact Hctx
  isplitl [Hst]; · iexact Hst
  isplitl [Hp]
  · rw [st0_eq]; iexact Hp
  iintro ⟨Hst, Hdn⟩
  ihave Hp := (Entails.of_eq (dn0_eq m d)) $$ Hdn
  ihave Hh := (Entails.of_eq (held_after m d)) $$ [Hp Hr]
  · isplitl [Hp] <;> iassumption
  iapply (tail_wp m κ d)
  isplitr; · iexact Hctx
  isplitl [Hst]; · iexact Hst
  isplitl [Hb]; · iexact Hb
  isplitl [Hh]; · iexact Hh
  isplitl [Hs] <;> iassumption

/-! ## The launch -/

/-- The ghost state at the launch. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem no_x : (iprop(emp) : sProp 𝕄) ⊢ bigSep Finset.univ fun thr : Thread nD τ => bigSep Finset.univ fun q : Fin 1 => (P (A m)).x q thr :=
  Entails.of_eq ((bigSep_congr (fun _ _ => bigSep_emp_const _)).trans (bigSep_emp_const _)).symm

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P (A m)).x q thr) := by
  unfold u₀
  iintro Hu
  ihave H := (ownU_split _ _) $$ Hu
  icases H with ⟨HH, HP⟩
  imod (Pipeline.fund_ghost (Pipeline.pin (pcfgs (F := F)) adm) EP pin_inj) $$ HP with ⟨Hg, Ht⟩
  imodintro
  isplitl [HH]; · iexact HH
  isplitl [Hg Ht]
  · unfold Gh
    rw [bigSep_sep']
    isplitl [Hg]
    · iapply (Entails.of_eq (bigSep_congr (Φ := fun d => bigSep Finset.univ fun p : Fin 1 => Pipeline.cellsGhost (Pipeline.pin (pcfgs (F := F)) adm) EP p d) (Ψ := fun d => Pipeline.cellsGhost (Pipeline.pin (pcfgs (F := F)) adm) EP 0 d)
        fun d _ => bigSep_univ_of_subsingleton (0 : Fin 1))); iexact Hg
    · iapply (Entails.of_eq (bigSep_congr (Φ := fun d => bigSep Finset.univ fun p : Fin 1 => Pipeline.toksInit (Pipeline.pin (pcfgs (F := F)) adm) EP p d) (Ψ := fun d => Pipeline.toksInit (Pipeline.pin (pcfgs (F := F)) adm) EP 0 d)
        fun d _ => bigSep_univ_of_subsingleton (0 : Fin 1))); iexact Ht
  · iapply (no_x m)
    iempintro

/-- What is read of device `d`'s final state. -/
def fq (d : Dev nD) (s' : Phys nD τ sig (Elt F)) : Prop := ∀ b ∈ ucRefs, s'.mem.mem (d, b) = VE m d b

theorem hfin (d : Dev nD) (s' : Phys nD τ sig (Elt F)) : iprop(FIN m d ∗ SI s') ⊢ (⌜fq m d s'⌝ : sProp 𝕄) := by
  unfold FIN held
  iintro H
  ihave H := (Idealize.ShloMosaic.pointsTo_read_all ucRefs (fun b => (d, b)) (VE m d) s') $$ H
  icases H with ⟨%h, -⟩
  ipureintro
  exact h

/-- The launch: every device ends with its arrays at the program's values, no semaphore left raised. -/
theorem run_main [∀ e, Nonempty (Elt F e)] (hH : ∀ d x, ((A m d).H x).toNat < 1000000) :
    θ_run (Cert.KernelIdeal.defs (F := F)) (Cert.KernelIdeal.threads (F := F)) ⟨m, fun _ => 0, ρ⟩
      (fun r => (∀ d, ∀ b ∈ ucRefs, r.2.mem (d, b) = VE m d b) ∧ r.2.sem = fun _ => 0) :=
  SparseCore.Cfg.θ_run_sc_quiescent (K := K (F := F)) (D := D (F := F)) (𝒱 := 𝒱) (EH := EH) (P := P (A m)) (A := ∅) facts v₀
    (fun q hq => match q with | 0 => nomatch hq)
    (fun q _ => match q with | 0 => tileObl facts (A m) hH)
    (fun q _ => match q with | 0 => SparseCore.Cfg.VecSplit.of_plain (vecSplit (A m)))
    m ρ main Gh (FIN m) (u₀ (F := F)) (sep_elim_left.trans (hu₀ m)) (hmain m ρ) (fq m) (hfin m) _ (fun _ h hz => ⟨h, hz⟩)

end Run

end Cert.Proof.Sc

end
-- ==== Proof.Twin.lean ====
/-
  The program over words and the program over the extended reals are one text but for the constant that the second one
  names. Where that name stands for its own word the two programs are equal, so the run serves both.
-/
module

public import proofs.«01_k».proof.Proof.Main
public import proofs.«01_k».proof.Proof.Gen.Kernel
public import Idealize.ShloMosaic.PureOps.BitExact

@[expose] public section

noncomputable section

namespace Cert.Proof.Sc

open Idealize.ShloMosaic Idealize.SL.Sem
open Cert.Kernel.Gen Cert.KernelIdeal.Gen

/-- Every name stands for the word it was printed from. -/
@[reducible] def bitsNamed : Named Bits := ⟨fun _ _ {φ} bits => Scalar.ofBits φ bits⟩

attribute [local instance] bitsNamed

set_option maxRecDepth 100000
set_option maxHeartbeats 4000000

/-- The subcores' kernel. -/
theorem body_twin : Cert.Kernel.cc0__sc_body (F := Bits) = Cert.KernelIdeal.cc0__sc_body (F := Bits) := rfl

/-- The TensorCore's kernel. -/
theorem fin_twin : Cert.Kernel.cc1__fin_body (F := Bits) = Cert.KernelIdeal.cc1__fin_body (F := Bits) := rfl

/-- The kernels' bodies, processor by processor. -/
theorem defs₀_twin (p : Proc Cert.KernelIdeal.τ) (l : Cert.KernelIdeal.Λ₀.Label) (a : Cert.KernelIdeal.Λ₀.Args l) :
    Cert.Kernel.defs₀ (F := Bits) p l a = Cert.KernelIdeal.defs₀ (F := Bits) p l a := by
  unfold Cert.Kernel.defs₀ Cert.KernelIdeal.defs₀
  rw [body_twin, fin_twin]
  match p, l, a with
  | .tc, 0, _ => rfl
  | .tc, 1, (t, s) => rfl
  | .scScalar c, 0, _ => rfl
  | .scScalar c, 1, (t, s) => rfl
  | .scVector c s, 0, _ => rfl
  | .scVector c s, 1, (t, s') => rfl

/-- The program of a device. -/
theorem main_twin (d : Dev Cert.KernelIdeal.nD) : Cert.Kernel.main (F := Bits) d = Cert.KernelIdeal.main (F := Bits) d := rfl

/-- The bodies with those of the launches. -/
theorem defs_twin : Cert.Kernel.defs (F := Bits) = Cert.KernelIdeal.defs (F := Bits) := by
  unfold Cert.Kernel.defs Cert.KernelIdeal.defs
  rw [show Cert.Kernel.defs₀ (F := Bits) = Cert.KernelIdeal.defs₀ (F := Bits) from
    funext fun p => funext fun l => funext fun a => defs₀_twin p l a]
  rfl

/-- The threads of the mesh. -/
theorem threads_twin : Cert.Kernel.threads (F := Bits) = Cert.KernelIdeal.threads (F := Bits) := by
  unfold Cert.Kernel.threads Cert.KernelIdeal.threads
  rw [show Cert.Kernel.main (F := Bits) = Cert.KernelIdeal.main (F := Bits) from funext main_twin]
  rfl

end Cert.Proof.Sc

end
-- ==== Proof.Sum.lean ====
/-
  The sum of a row over the extended reals: the kernel adds 1600 products lane by lane, the reference adds them root by root.
-/
module

public import proofs.«01_k».proof.Proof.Row
public import Idealize.ShloMosaic.PureOps.IdealRules
public import Idealize.ShloMosaic.Lib.Pointwise

@[expose] public section

noncomputable section

namespace Cert.Proof.Sc

open Idealize.ShloMosaic

/-- The constant of the history's length at `Ideal`. -/
theorem inv_hist : Named.named (F := Ideal) Cert.KernelIdeal.κ "inv_hist" (φ := .f32) 0x3CA3D70A#32 = ((1 / 50 : ℝ) : EReal) :=
  IdealRules.named_const.ideal_named_scalar _ _ _ _ rfl

/-- A lane's sum after `e` neighbours. -/
theorem rowAcc_sum (nb : ℕ → ℕ → EReal) (pr : ℕ → EReal) (l : ℕ) : ∀ e, rowAcc (F := Ideal) nb pr l e
    = ∑ i ∈ Finset.range e, (nb i l * pr (32 * i + l) + nb i (16 + l) * pr (32 * i + 16 + l))
  | 0 => Ideal.ofBits_zero_f32
  | e + 1 => by
    rw [Finset.sum_range_succ, ← rowAcc_sum nb pr l e, ← add_assoc]
    rfl

/-- Sixteen lanes and sixteen more are thirty-two. -/
theorem sum_halves (g : ℕ → EReal) : ∑ l : Fin 16, (g l.val + g (16 + l.val)) = ∑ c : Fin 32, g c.val := by
  rw [Finset.sum_add_distrib]
  exact (Fin.sum_univ_add (a := 16) (b := 16) fun c : Fin (16 + 16) => g c.val).symm

/-- A sum over `m * n` numbers, by quotient and remainder. -/
theorem sum_split (m n : ℕ) (g : ℕ → EReal) : ∑ i : Fin m, ∑ j : Fin n, g (j.val + n * i.val) = ∑ k : Fin (m * n), g k.val := by
  rw [← Fintype.sum_prod_type' fun (i : Fin m) (j : Fin n) => g (j.val + n * i.val)]
  exact Fintype.sum_equiv finProdFinEquiv _ _ fun _ => rfl

/-- A finite nonnegative factor comes out of a sum. -/
theorem sum_mul_of_nonneg {ι : Type} (s : Finset ι) (f : ι → EReal) {x : EReal} (h : 0 ≤ x) (ht : x ≠ ⊤) :
    ∑ i ∈ s, f i * x = (∑ i ∈ s, f i) * x := by
  classical
  induction s using Finset.induction_on with
  | empty => simp
  | insert a s ha ih => rw [Finset.sum_insert ha, Finset.sum_insert ha, ih, EReal.right_distrib_of_nonneg_of_ne_top h ht]

/-- The kernel's sixteen lanes of a row, added. -/
theorem lanes_sum (nb : ℕ → ℕ → EReal) (it rt : ℕ → EReal) (hr : ∀ h < 50, 0 ≤ rt h ∧ rt h ≠ ⊤) :
    ∑ l : Fin 16, rowOut (F := Ideal) nb it rt l.val
      = (∑ h : Fin 50, (∑ d : Fin 32, nb ((h.val + 50 * d.val) / 32) ((h.val + 50 * d.val) % 32) * it d.val) * rt h.val) * ((1 / 50 : ℝ) : EReal) := by
  have h50 : (0 : EReal) ≤ ((1 / 50 : ℝ) : EReal) := by exact_mod_cast (by norm_num : (0 : ℝ) ≤ 1 / 50)
  have e1 : ∀ l : Fin 16, rowOut (F := Ideal) nb it rt l.val = rowAcc (F := Ideal) nb (prodAt (F := Ideal) it rt) l.val 50 * ((1 / 50 : ℝ) : EReal) := fun l => by
    rw [← inv_hist]; rfl
  rw [Finset.sum_congr rfl fun l _ => e1 l, sum_mul_of_nonneg _ _ h50 (EReal.coe_ne_top _)]
  congr 1
  let G : ℕ → EReal := fun k => nb (k / 32) (k % 32) * (it (k / 50) * rt (k % 50))
  have e2 : ∀ l : Fin 16, rowAcc (F := Ideal) nb (prodAt (F := Ideal) it rt) l.val 50
      = ∑ i : Fin 50, (G (l.val + 32 * i.val) + G ((16 + l.val) + 32 * i.val)) := fun l => by
    rw [rowAcc_sum, Finset.sum_range]
    refine Finset.sum_congr rfl fun i _ => ?_
    have a1 : (l.val + 32 * i.val) / 32 = i.val := by omega
    have a2 : (l.val + 32 * i.val) % 32 = l.val := by omega
    have a3 : (16 + l.val + 32 * i.val) / 32 = i.val := by omega
    have a4 : (16 + l.val + 32 * i.val) % 32 = 16 + l.val := by omega
    have a5 : 32 * i.val + l.val = l.val + 32 * i.val := by omega
    have a6 : 32 * i.val + 16 + l.val = 16 + l.val + 32 * i.val := by omega
    show _ = nb _ _ * (it _ * rt _) + nb _ _ * (it _ * rt _)
    rw [a1, a2, a3, a4, a5, a6]
    rfl
  rw [Finset.sum_congr rfl fun l _ => e2 l, Finset.sum_comm,
    Finset.sum_congr rfl fun i _ => sum_halves fun c => G (c + 32 * i.val), sum_split 50 32 G]
  show ∑ k : Fin (32 * 50), G k.val = _
  rw [← sum_split 32 50 G, Finset.sum_comm]
  refine Finset.sum_congr rfl fun h _ => ?_
  rw [← sum_mul_of_nonneg _ _ (hr h.val h.isLt).1 (hr h.val h.isLt).2]
  refine Finset.sum_congr rfl fun d _ => ?_
  have b1 : (h.val + 50 * d.val) / 50 = d.val := by omega
  have b2 : (h.val + 50 * d.val) % 50 = h.val := by omega
  show nb _ _ * (it _ * rt _) = _
  rw [b1, b2, mul_assoc]

end Cert.Proof.Sc

end
-- ==== Proof.Score.lean ====
/-
  What the kernel's two results are at a row, over the extended reals.
-/
module

public import proofs.«01_k».proof.Proof.Main
public import proofs.«01_k».proof.Proof.Sum
public import Idealize.ShloMosaic.Lib.Pointwise

@[expose] public section

noncomputable section

namespace Cert.Proof.Sc

open Idealize.ShloMosaic Cert.KernelIdeal Cert.KernelIdeal.Gen

set_option maxRecDepth 16384

/-- The logistic function as both programs spell it. -/
def squash (x : EReal) : EReal := Ideal.div 1 (1 + Ideal.exp (-x))

/-- A row is row `r % 2048` of block `r / 2048`. -/
theorem row_ofNat (r : Fin 16384) : Fin.ofNat 16384 (2048 * (r.val / 2048) + (Fin.ofNat 2048 (r.val % 2048)).val) = r :=
  Fin.ext (by show (2048 * (r.val / 2048) + r.val % 2048 % 2048) % 16384 = _; omega)

theorem fin0_apply (p : S16384x16.Idx → EReal) (a b : S16384x32.Idx → EReal) (r : Fin 16384) :
    fin0 (F := Ideal) p a b (ix2 r 0) = squash ((∑ d : Fin 32, a (ix2 r d) * b (ix2 r d)) + ∑ l : Fin 16, p (ix2 r l)) := by
  unfold fin0 squash
  pointwise [k1_pay1, rowsAt]
  have e (n : ℕ) (x : Fin n) : ValueIdx.ix2 (Fin.ofNat 16384 (2048 * (r.val / 2048)
      + ((ValueIdx.ix2 (Fin.ofNat 2048 (r.val % 2048)) (0 : Fin 1) : S2048x1.Idx) 0).val)) x = ix2 r x :=
    congrArg (fun q => ix2 q x) (row_ofNat r)
  simp only [e, zero_sub]

theorem fin1_apply (z : S16384x1.Idx → EReal) (r : Fin 16384) :
    fin1 (F := Ideal) z (ix2 r 0) = 1 + Ideal.log (1 + z (ix2 r 0) * Ideal.ofBits .f32 0x501502F9#32) := by
  unfold fin1
  pointwise [k1_pay2, rowsAt]
  show 1 + Ideal.log (1 + z (ix2 (Fin.ofNat 16384 (2048 * (r.val / 2048) + (Fin.ofNat 2048 (r.val % 2048)).val)) 0)
    * Ideal.ofBits .f32 0x501502F9#32) = _
  rw [row_ofNat]

theorem distVal_apply (ds : S16384x50.Idx → EReal) (b : Fin 16384) (x : Fin 50) (k : Fin 1048576) (hk : k.val = 64 * b.val + x.val) :
    distVal (F := Ideal) ds (ix1 k) = ds (ix2 b x) := by
  unfold distVal
  pointwise
  rw [dif_pos ⟨by omega, by omega⟩]
  congr 2 <;> exact Fin.ext (by show _ = _; simp only; omega)

theorem tabVal_apply (tb : S1000000x32.Idx → EReal) (r : Fin 1000000) (c : Fin 128) (d : Fin 32) (h : c.val = d.val) :
    tabVal (F := Ideal) tb (ix2 r c) = tb (ix2 r d) := by
  unfold tabVal
  pointwise
  rw [dif_pos (by omega)]
  congr 2
  exact Fin.ext h

theorem histVal_apply (hs : S16384x50.Idx → BitVec 32) (i : Fin 8192) (j : Fin 100) (b : Fin 16384) (e : Fin 50) (h : 100 * i.val + j.val = 50 * b.val + e.val) :
    histVal hs (ix2 i j) = hs (ix2 b e) := by
  unfold histVal
  pointwise
  congr 2 <;> exact Fin.ext (by show _ = _; simp only; omega)

/-- Coordinate `c` of neighbour `e` of a row, as the kernel reads it. -/
def nbrs (hs : S16384x50.Idx → BitVec 32) (tb : S1000000x32.Idx → EReal) (b : Fin 16384) (e c : ℕ) : EReal :=
  tabVal (F := Ideal) tb (ix2 (Fin.ofNat 1000000 (histVal hs (ix2 (Fin.ofNat 8192 (b.val / 2)) (Fin.ofNat 100 (50 * (b.val % 2) + e)))).toNat)
    (Fin.ofNat 128 c))

theorem nbrs_apply (hs : S16384x50.Idx → BitVec 32) (tb : S1000000x32.Idx → EReal) (b : Fin 16384) (e : Fin 50) (c : Fin 32) :
    nbrs hs tb b e.val c.val = tb (ix2 (Fin.ofNat 1000000 (hs (ix2 b e)).toNat) c) := by
  unfold nbrs
  rw [histVal_apply hs _ _ b e, tabVal_apply tb _ _ c]
  · show c.val % 128 = _
    omega
  · show 100 * (b.val / 2 % 8192) + (50 * (b.val % 2) + e.val) % 100 = _
    omega

/-- The lanes of a row of the partial sums, added, from the arrays as the program is given them. -/
theorem out_lanes (hs : S16384x50.Idx → BitVec 32) (ds : S16384x50.Idx → EReal) (hj : S16384x32.Idx → EReal) (tb : S1000000x32.Idx → EReal)
    (hd : ∀ x, ∃ v : ℝ, 0 ≤ v ∧ ds x = (v : EReal)) (b : Fin 16384) :
    ∑ l : Fin 16, OutV (F := Ideal) (histVal hs) (distVal (F := Ideal) ds) hj (tabVal (F := Ideal) tb) (ix2 b l)
      = (∑ h : Fin 50, (∑ d : Fin 32, tb (ix2 (Fin.ofNat 1000000 (hs (ix2 b ⟨(h.val + 50 * d.val) / 32, by omega⟩)).toNat)
          ⟨(h.val + 50 * d.val) % 32, by omega⟩) * hj (ix2 b d)) * Ideal.sqrt (ds (ix2 b h))) * ((1 / 50 : ℝ) : EReal) := by
  have eD : ∀ x : Fin 50, Ideal.sqrt (distVal (F := Ideal) ds (ix1 (Fin.ofNat 1048576 (64 * b.val + x.val)))) = Ideal.sqrt (ds (ix2 b x)) := fun x => by
    rw [distVal_apply ds b x]
    show (64 * b.val + x.val) % 1048576 = _
    omega
  have eO : ∀ l : Fin 16, OutV (F := Ideal) (histVal hs) (distVal (F := Ideal) ds) hj (tabVal (F := Ideal) tb) (ix2 b l)
      = rowOut (F := Ideal) (nbrs hs tb b) (fun e => hj (ix2 b (Fin.ofNat 32 e)))
        (fun x => Ideal.sqrt (distVal (F := Ideal) ds (ix1 (Fin.ofNat 1048576 (64 * b.val + x))))) l.val := fun l => rfl
  rw [Finset.sum_congr rfl fun l _ => eO l, lanes_sum (nbrs hs tb b) _ _ ?_]
  · congr 1
    refine Finset.sum_congr rfl fun h _ => ?_
    rw [eD h]
    congr 1
    refine Finset.sum_congr rfl fun d _ => ?_
    rw [nbrs_apply hs tb b ⟨(h.val + 50 * d.val) / 32, by omega⟩ ⟨(h.val + 50 * d.val) % 32, by omega⟩,
      show Fin.ofNat 32 d.val = d from Fin.ext (by show d.val % 32 = _; omega)]
  · intro h hh
    have e' := eD ⟨h, hh⟩
    simp only at e'
    rw [e']
    obtain ⟨v, hv, e⟩ := hd (ix2 b ⟨h, hh⟩)
    rw [e, Ideal.sqrt_coe, if_neg (not_lt.2 hv)]
    exact ⟨by exact_mod_cast Real.sqrt_nonneg v, EReal.coe_ne_top _⟩

end Cert.Proof.Sc

end
-- ==== Proof.RefScore.lean ====
/-
  What the reference's two results are at a row, over the extended reals.
-/
module

public import proofs.«01_k».proof.Proof.Score
public import proofs.«01_k».proof.Proof.Gen.ReferenceIdeal.Run
public import Idealize.ShloMosaic.Lib.Pointwise

@[expose] public section

noncomputable section

namespace Cert.Proof.Sc

open Idealize.ShloMosaic Idealize.SL.Sem Cert.ReferenceIdeal Cert.ReferenceIdeal.Gen

set_option maxRecDepth 16384

/-- The history's lookup: the rows of `tb` the words name. -/
def take3 (tb : S1000000x32.Idx → EReal) (ix : S16384x50.Idx → BitVec 32) : S16384x50x32.Idx → EReal :=
  let j : S16384x50x1.Idx → BitVec 32 := broadcastInDim S16384x50x1 ![0, 1] bcast_S16384x50_S16384x50x1_0_1
    (select (cmpi .slt ix (broadcastInDim S16384x50 ![] bcast_S_S16384x50 (constantI S_ 32 0#32)))
      (addi ix (broadcastInDim S16384x50 ![] bcast_S_S16384x50 (constantI S_ 32 1000000#32))) ix)
  select (broadcastInDim S16384x50x32 ![0, 1] bcast_S16384x50_S16384x50x32_0_1
      (Host.reduce IntOp.andi (andi (cmpi .sge j (broadcastInDim S16384x50x1 ![] bcast_S_S16384x50x1 (constantI S_ 32 0#32)))
        (cmpi .sle j (broadcastInDim S16384x50x1 ![0, 1, 2] bcast_S1x1x1_S16384x50x1_0_1_2 (broadcastInDim S1x1x1 ![2] bcast_S1_S1x1x1_2 (constantI S1 32 999999#32)))))
        (constantI S_ 1 1#1) reducesTo_S16384x50x1_S16384x50_d2 h_S_))
    (Host.gather gather_S1000000x32_S16384x50x1_S16384x50x32_2_0_n_n_0_2_132 tb j)
    (broadcastInDim S16384x50x32 ![] bcast_S_S16384x50x32 (constant (F := Ideal) S_ .f32 0x7FC00000#32))

/-- The reference's first result, from the rows looked up. -/
def refScore (a b hj : FVec Ideal S16384x32 .f32) (nb : FVec Ideal S16384x50x32 .f32) (ds : FVec Ideal S16384x50 .f32) : FVec Ideal S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf
        (shapeCast _ (Host.dotGeneral dot_S16384x1x32_S16384x32x1_S16384x1x1_2_1_1_2_0_0 none
          (shapeCast _ a shapeCasts_S16384x32_S16384x1x32) (shapeCast _ b shapeCasts_S16384x32_S16384x32x1)) shapeCasts_S16384x1x1_S16384x1)
        (broadcastInDim S16384x1 ![0] bcast_S16384_S16384x1_0
          (Host.divf
            (Host.reduceAdd (mulf (Host.reduceAdd (mulf (shapeCast _ nb shapeCasts_S16384x50x32_S16384x32x50)
                  (broadcastInDim S16384x32x50 ![0, 1, 2] bcast_S16384x32x1_S16384x32x50_0_1_2 (shapeCast _ hj shapeCasts_S16384x32_S16384x32x1)))
                (constant S_ .f32 0x00000000#32) reducesTo_S16384x32x50_S16384x50_d1 h_S_)
              (mulf (broadcastInDim S16384x50 ![] bcast_S_S16384x50 (constant S_ .f32 0x3F800000#32))
                (Host.powf ds (broadcastInDim S16384x50 ![] bcast_S_S16384x50 (constant S_ .f32 0x3F000000#32)))))
              (constant S_ .f32 0x00000000#32) reducesTo_S16384x50_S16384_d1 h_S_)
            (broadcastInDim S16384 ![] bcast_S_S16384 (constant S_ .f32 0x42480000#32))))))))

theorem res_eq (m : (ℓ : Loc nD τ sig) → Buf (Elt Ideal) ℓ) (c : Dev nD) :
    Value.res_main_v35 m c = refScore (takeVal (F := Ideal) (m ((c.tc : Thread nD τ).loc main_arg5)) (m ((c.tc : Thread nD τ).loc main_arg0)))
      (takeVal (F := Ideal) (m ((c.tc : Thread nD τ).loc main_arg6)) (m ((c.tc : Thread nD τ).loc main_arg1)))
      (takeVal (F := Ideal) (m ((c.tc : Thread nD τ).loc main_arg8)) (m ((c.tc : Thread nD τ).loc main_arg1)))
      (take3 (m ((c.tc : Thread nD τ).loc main_arg7)) (m ((c.tc : Thread nD τ).loc main_arg2)))
      (m ((c.tc : Thread nD τ).loc main_arg4)) := by
  unfold Value.res_main_v35 refScore takeVal take3
  rfl

theorem ofBits_half : Ideal.ofBits .f32 0x3F000000#32 = ((1 / 2 : ℝ) : EReal) := by
  simp [Ideal.ofBits, Ideal.ieee, -EReal.coe_mul]; norm_num

theorem ofBits_fifty : Ideal.ofBits .f32 0x42480000#32 = ((50 : ℝ) : EReal) := by
  simp [Ideal.ofBits, Ideal.ieee, -EReal.coe_mul]; norm_num

/-- The root is the power one half of a nonnegative real. -/
theorem pow_half {x : EReal} (h : ∃ v : ℝ, 0 ≤ v ∧ x = (v : EReal)) : Ideal.pow x ((1 / 2 : ℝ) : EReal) = Ideal.sqrt x := by
  obtain ⟨v, hv, rfl⟩ := h
  rw [Ideal.sqrt_coe, if_neg (not_lt.2 hv), Real.sqrt_eq_rpow]
  rfl

/-- A quotient by fifty is a product with its inverse. -/
theorem div_fifty (x : EReal) : Ideal.div x ((50 : ℝ) : EReal) = x * ((1 / 50 : ℝ) : EReal) := by
  unfold Ideal.div
  rw [if_neg (by exact_mod_cast (by norm_num : (50 : ℝ) ≠ 0)), ← EReal.coe_inv, one_div]

theorem refScore_apply (a b hj : S16384x32.Idx → EReal) (nb : S16384x50x32.Idx → EReal) (ds : S16384x50.Idx → EReal)
    (hd : ∀ x, ∃ v : ℝ, 0 ≤ v ∧ ds x = (v : EReal)) (r : Fin 16384) :
    refScore a b hj nb ds (ix2 r 0) = squash ((∑ d : Fin 32, a (ix2 r d) * b (ix2 r d))
      + (∑ h : Fin 50, (∑ d : Fin 32, nb (ix3 r ⟨(h.val + 50 * d.val) / 32, by omega⟩ ⟨(h.val + 50 * d.val) % 32, by omega⟩)
          * hj (ix2 r d)) * Ideal.sqrt (ds (ix2 r h))) * ((1 / 50 : ℝ) : EReal)) := by
  unfold refScore squash
  pointwise
  rw [ofBits_half, ofBits_fifty, div_fifty]
  refine congrArg (fun x => Ideal.div 1 (1 + Ideal.exp (-(_ + x * _)))) (Finset.sum_congr rfl fun h _ => ?_)
  rw [pow_half (hd _)]
  refine congrArg (· * _) (Finset.sum_congr rfl fun d _ => congrArg (· * _) ?_)
  congr 2 <;> exact Fin.ext (by show _ = _; simp only; omega)

/-- A lookup by a list of lists of words reads, at a word that is not negative, the row the word names. -/
theorem gather3_apply (tb : S1000000x32.Idx → EReal) (j : S16384x50x1.Idx → BitVec 32) (r : Fin 16384) (h : Fin 50) (d : Fin 32)
    (hj : (j (ix3 r h 0)).toNat < 1000000) :
    Host.gather gather_S1000000x32_S16384x50x1_S16384x50x32_2_0_n_n_0_2_132 tb j (ix3 r h d) = tb (ix2 (Fin.ofNat 1000000 (j (ix3 r h 0)).toNat) d) := by
  unfold Host.gather
  refine congrArg tb (funext fun a => Fin.ext ?_)
  set D := gather_S1000000x32_S16384x50x1_S16384x50x32_2_0_n_n_0_2_132 with hD
  show D.start (ix3 r h d) j a + D.batchCoord (ix3 r h d) a + D.offCoord (ix3 r h d) a = _
  rw [D.batchCoord_eq_zero _ _ List.not_mem_nil, Nat.add_zero]
  match a with
  | ⟨0, _⟩ =>
    have hm : (0 : Fin 2) ∈ D.startIndexMap := List.mem_singleton.2 rfl
    have hk : D.offCoord (ix3 r h d) (0 : Fin 2) = 0 :=
      D.offCoord_eq_zero _ _ fun hk => ((D.mem_sKept _).1 hk).1 (List.mem_singleton.2 rfl)
    have hs : D.siIdx (ix3 r h d) ⟨D.startIndexMap.idxOf 0, List.idxOf_lt_length_iff.2 hm⟩ = ix3 r h 0 := by
      funext b
      match b with
      | ⟨0, _⟩ => rfl
      | ⟨1, _⟩ => rfl
      | ⟨2, _⟩ => rfl
    show D.start (ix3 r h d) j (0 : Fin 2) + D.offCoord (ix3 r h d) (0 : Fin 2) = (j (ix3 r h 0)).toNat % 1000000
    rw [hk, Nat.add_zero]
    unfold GatherDims.start
    rw [dif_pos hm, hs]
    show min (j (ix3 r h 0)).toInt.toNat (1000000 - 1) = _
    rw [BitVec.toInt_eq_toNat_cond, if_pos (by omega)]
    omega
  | ⟨1, _⟩ =>
    have hm : (1 : Fin 2) ∉ D.startIndexMap := by decide
    have h0 : D.start (ix3 r h d) j (1 : Fin 2) = 0 := by unfold GatherDims.start; rw [dif_neg hm]
    show D.start (ix3 r h d) j (1 : Fin 2) + D.offCoord (ix3 r h d) (1 : Fin 2) = d.val
    rw [h0, Nat.zero_add]
    rfl

/-- A word below the number of rows is not negative and passes the range check. -/
theorem word_range (w : BitVec 32) (hw : w.toNat < 1000000) : IntOp.cmpi .slt w 0#32 = 0#1
    ∧ IntOp.cmpi .sge w 0#32 = 1#1 ∧ IntOp.cmpi .sle w 999999#32 = 1#1 := by
  have e : w.toInt = w.toNat := by rw [BitVec.toInt_eq_toNat_cond, if_pos (by omega)]
  have e9 : (999999#32 : BitVec 32).toInt = 999999 := by decide
  have e0 : (0#32 : BitVec 32).toInt = 0 := by decide
  refine ⟨?_, ?_, ?_⟩
  · refine ValueIdx.eq_zero_of_ne_one fun h => ?_
    rw [IntOp.cmpi_slt] at h
    omega
  · rw [IntOp.cmpi_sge]; omega
  · rw [IntOp.cmpi_sle]; omega

theorem take3_apply (tb : S1000000x32.Idx → EReal) (ix : S16384x50.Idx → BitVec 32) (hi : ∀ x, (ix x).toNat < 1000000)
    (r : Fin 16384) (h : Fin 50) (d : Fin 32) : take3 tb ix (ix3 r h d) = tb (ix2 (Fin.ofNat 1000000 (ix (ix2 r h)).toNat) d) := by
  obtain ⟨w1, w2, w3⟩ := word_range _ (hi (ix2 r h))
  have hj : broadcastInDim S16384x50x1 ![0, 1] bcast_S16384x50_S16384x50x1_0_1
      (select (cmpi .slt ix (broadcastInDim S16384x50 ![] bcast_S_S16384x50 (constantI S_ 32 0#32)))
        (addi ix (broadcastInDim S16384x50 ![] bcast_S_S16384x50 (constantI S_ 32 1000000#32))) ix) (ix3 r h 0) = ix (ix2 r h) := by
    pointwise
    rw [w1]
    rfl
  unfold take3
  pointwise
  rw [w1, gather3_apply tb _ r h d (by rw [hj]; exact hi _), hj]
  simp only [ValueIdx.select_zero, w2, w3]
  exact congrArg (fun q => Scalar.select q _ _) (show Finset.fold IntOp.andi (1#1) (fun _ : Fin 1 => IntOp.andi 1#1 1#1) Finset.univ = 1#1 by decide)

/-- Both programs have the same first result, row by row. -/
theorem score_eq (hs : S16384x50.Idx → BitVec 32) (ds : S16384x50.Idx → EReal) (a b hj : S16384x32.Idx → EReal) (tb : S1000000x32.Idx → EReal)
    (hi : ∀ x, (hs x).toNat < 1000000) (hd : ∀ x, ∃ v : ℝ, 0 ≤ v ∧ ds x = (v : EReal)) :
    fin0 (F := Ideal) (OutV (F := Ideal) (histVal hs) (distVal (F := Ideal) ds) hj (tabVal (F := Ideal) tb)) a b = refScore a b hj (take3 tb hs) ds := by
  funext x
  obtain ⟨r, q, rfl⟩ : ∃ (r : Fin 16384) (q : Fin 1), x = ix2 r q := ⟨x 0, x 1, eq_ix2 x⟩
  obtain rfl : q = 0 := Subsingleton.elim _ _
  rw [fin0_apply, out_lanes hs ds hj tb hd, refScore_apply a b hj _ ds hd]
  simp only [take3_apply tb hs hi]

/-- Both programs have the same second result. -/
theorem log_eq (z : S16384x1.Idx → EReal) : fin1 (F := Ideal) z
    = addf (F := Ideal) (φ := .f32) (broadcastInDim S16384x1 ![] bcast_S_S16384x1 (constant S_ .f32 0x3F800000#32)) (Host.log (addf (broadcastInDim S16384x1 ![] bcast_S_S16384x1 (constant S_ .f32 0x3F800000#32)) (mulf z (broadcastInDim S16384x1 ![] bcast_S_S16384x1 (constant S_ .f32 0x501502F9#32))))) := by
  funext x
  obtain ⟨r, q, rfl⟩ : ∃ (r : Fin 16384) (q : Fin 1), x = ix2 r q := ⟨x 0, x 1, eq_ix2 x⟩
  obtain rfl : q = 0 := Subsingleton.elim _ _
  rw [fin1_apply]
  pointwise

end Cert.Proof.Sc

end
-- ==== Proof.Claims.lean ====
/-
  The claims: both forms of the kernel run and leave their arguments, so does the reference, and the kernel's two results
  are the reference's.
-/
module

public import proofs.«01_k».proof.Defs
public import proofs.«01_k».proof.Proof.Pre
public import proofs.«01_k».proof.Proof.Twin
public import proofs.«01_k».proof.Proof.RefScore

@[expose] public section

set_option maxRecDepth 100000
set_option maxHeartbeats 4000000

noncomputable section

namespace Cert.Proof.Sc

open Idealize.ShloMosaic Idealize.SL.Sem Idealize.ShloMosaic.StableHlo Idealize.ShloMosaic.TcCoe
open Cert.KernelIdeal Cert.KernelIdeal.Gen

section Run

variable {F : FTy → Type} [FloatOps F] [Named F]

/-- What the precondition says of one device's arrays. -/
abbrev PreAt (m : (ℓ : Loc nD τ sig) → Buf (Elt F) ℓ) (c : Dev nD) : Prop :=
  Cert.Pre_inputs_in_range.fn (F := F) (V0 m c main_arg0) (V0 m c main_arg1) (V0 m c main_arg2) (V0 m c main_arg3) (V0 m c main_arg4)
    (V0 m c main_arg5) (V0 m c main_arg6) (V0 m c main_arg7) (V0 m c main_arg8) = fun _ => 1#1

/-- The words of a device's history name rows of its table. -/
theorem hist_lt {m : (ℓ : Loc nD τ sig) → Buf (Elt F) ℓ} {c : Dev nD} (h : PreAt m c) (x : S8192x100.Idx) : ((A m c).H x).toNat < 1000000 :=
  pre_hist h _

/-- The results and the arguments at the end of a run. -/
def Ends (m : (ℓ : Loc nD τ sig) → Buf (Elt F) ℓ) (c : Dev nD) (mem : (ℓ : Loc nD τ sig) → Buf (Elt F) ℓ) : Prop :=
  mem (c.tc.loc main_v8_0) = R0 m c ∧ mem (c.tc.loc main_v8_1) = R1 m c
    ∧ mem (c.tc.loc main_arg0) = m (c.tc.loc main_arg0) ∧ mem (c.tc.loc main_arg1) = m (c.tc.loc main_arg1)
    ∧ mem (c.tc.loc main_arg2) = m (c.tc.loc main_arg2) ∧ mem (c.tc.loc main_arg3) = m (c.tc.loc main_arg3)
    ∧ mem (c.tc.loc main_arg4) = m (c.tc.loc main_arg4) ∧ mem (c.tc.loc main_arg5) = m (c.tc.loc main_arg5)
    ∧ mem (c.tc.loc main_arg6) = m (c.tc.loc main_arg6) ∧ mem (c.tc.loc main_arg7) = m (c.tc.loc main_arg7)
    ∧ mem (c.tc.loc main_arg8) = m (c.tc.loc main_arg8)

theorem run_ends [∀ e, Nonempty (Elt F e)] (m : (ℓ : Loc nD τ sig) → Buf (Elt F) ℓ) (g : Dev nD → PrngReg) (h : ∀ c, PreAt m c) :
    θ_run (Cert.KernelIdeal.defs (F := F)) (Cert.KernelIdeal.threads (F := F)) ⟨m, fun _ => 0, g⟩
      (fun r => (∀ c, Ends m c r.2.mem) ∧ r.2.sem = fun _ => 0) := by
  refine (θ_run _ _ _).mono (fun r hr => ⟨fun c => ?_, hr.2⟩) (run_main m g fun d x => hist_lt (h d) x)
  have e (r' : Ref sig .tc) (hs : ¬ (Proc.devRef (τ := τ) .tc r').isScoped) : r.2.mem (c, Proc.devRef .tc r') = VE m c r' := hr.1 c _ (mem_ucRefs r' hs)
  have a (r' : Ref sig .tc) (hs : ¬ (Proc.devRef (τ := τ) .tc r').isScoped) (hA : r' ∉ wA) (h1 : r' ∉ w1) (h2 : r' ∉ w2) (h3 : r' ∉ w3)
      (hB : r' ∉ wB) (h7 : r' ≠ main_v7) (h80 : r' ≠ main_v8_0) (h81 : r' ≠ main_v8_1) :
      r.2.mem (c, Proc.devRef .tc r') = m (c, Proc.devRef .tc r') := (e r' hs).trans (VE_arg m c r' hA h1 h2 h3 hB h7 h80 h81)
  refine ⟨(e main_v8_0 (by decide)).trans (VE_v8_0 m c), (e main_v8_1 (by decide)).trans (VE_v8_1 m c), ?_, ?_, ?_, ?_, ?_, ?_, ?_, ?_, ?_⟩ <;>
    exact a _ (by decide) (by decide) (by decide) (by decide) (by decide) (by decide) (by decide) (by decide) (by decide)

end Run

section Words

attribute [local instance] bitsNamed

/-- The kernel over words runs and leaves its arguments. -/
theorem frame_kernel : Cert.quiescent_Kernel (hKernel := Cert.Kernel.Gen.facts) (hPre_inputs_in_range := Cert.Pre_inputs_in_range.Gen.facts) := by
  intro m g h
  rw [defs_twin, threads_twin]
  exact (θ_run _ _ _).mono (fun r hr => ⟨fun c => (hr.1 c).2.2, hr.2⟩) (run_ends (F := Bits) m g h)

end Words

/-- The kernel over the extended reals runs and leaves its arguments. -/
theorem frame_ideal : Cert.quiescent_KernelIdeal (hKernelIdeal := Cert.KernelIdeal.Gen.facts) (hPre_inputs_in_range := Cert.Pre_inputs_in_range.Gen.facts) :=
  fun m g h => (θ_run _ _ _).mono (fun _ hr => ⟨fun c => (hr.1 c).2.2, hr.2⟩) (run_ends (F := Ideal) m g h)

/-- The reference runs and leaves its arguments. -/
theorem frame_reference : Cert.quiescent_ReferenceIdeal (hReferenceIdeal := Cert.ReferenceIdeal.Gen.facts) :=
  fun m g _ => (θ_run Cert.ReferenceIdeal.defs _ _).mono (fun r h => ⟨fun c => (h c).2.2, sem_eq_zero_of_no_sems (by decide) r.2⟩)
    (Cert.ReferenceIdeal.Value.run (F := Ideal) m g)

/-- The same under the precondition, which the reference does not need. -/
theorem frame_reference_pre : Cert.quiescent_ReferenceIdeal_pre_inputs_in_range (hReferenceIdeal := Cert.ReferenceIdeal.Gen.facts)
    (hPre_inputs_in_range := Cert.Pre_inputs_in_range.Gen.facts) := fun m g _ => frame_reference m g trivial

/-- The constant's name has the value the table gives it. -/
theorem preserves_kernel : Cert.preserves_Kernel_KernelIdeal :=
  IdealRules.named_const.statement Cert.KernelIdeal.κ "inv_hist" .f32 0x3CA3D70A#32 ((1 / 50 : ℝ) : EReal) rfl

/-- The kernel's two results are the reference's. -/
theorem algebraic_kernel : Cert.algebraic_KernelIdeal_ReferenceIdeal (hKernelIdeal := Cert.KernelIdeal.Gen.facts) (hReferenceIdeal := Cert.ReferenceIdeal.Gen.facts)
    (hPre_inputs_in_range := Cert.Pre_inputs_in_range.Gen.facts) := by
  intro m g m' g' h ha
  refine ⟨R0 m, R1 m, (θ_run _ _ _).mono (fun r hr c => hr.1 c) (run_ends (F := Ideal) m g h),
    (θ_run Cert.ReferenceIdeal.defs _ _).mono (fun r hr c => ⟨(hr c).1.trans ?_, (hr c).2.1.trans ?_, (hr c).2.2⟩)
      (Cert.ReferenceIdeal.Value.run (F := Ideal) m' g')⟩
  · obtain ⟨a0, a1, a2, -, a4, a5, a6, a7, a8⟩ := ha c
    rw [res_eq, a0, a1, a2, a4, a5, a6, a7, a8]
    exact (score_eq _ _ _ _ _ _ (pre_hist (h c)) (pre_dist (h c))).symm
  · rw [(ha c).2.2.2.1]
    exact (log_eq _).symm

end Cert.Proof.Sc

end
-- ==== Proof.lean ====
/-
  The claim: every program's stated facts hold, and with them the frames, the constant's name and the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs_in_range
public import proofs.«01_k».proof.Proof.Claims

@[expose] public section

noncomputable section

namespace Cert.Proof

/-- All the claims. -/
theorem claim : Cert.Claim :=
  ⟨Cert.Kernel.Gen.facts, Cert.KernelIdeal.Gen.facts, Cert.ReferenceIdeal.Gen.facts, Cert.Pre_inputs_in_range.Gen.facts,
    Sc.frame_kernel, Sc.frame_ideal, Sc.frame_reference, Sc.frame_reference_pre, Sc.preserves_kernel, Sc.algebraic_kernel⟩

end Cert.Proof

end
